-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable_KernelIdeal [hPre_usable_KernelIdeal : Cert.Pre_usable_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_usable_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable_ReferenceIdeal [hPre_usable_ReferenceIdeal : Cert.Pre_usable_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_usable_KernelIdeal [hKernelIdeal : Cert.KernelIdeal.Facts] [hPre_usable_KernelIdeal : Cert.Pre_usable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_usable_ReferenceIdeal [hReferenceIdeal : Cert.ReferenceIdeal.Facts] [hPre_usable_ReferenceIdeal : Cert.Pre_usable_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_usable_KernelIdeal [hKernelIdeal : Cert.KernelIdeal.Facts] [hReferenceIdeal : Cert.ReferenceIdeal.Facts] [hPre_usable_KernelIdeal : Cert.Pre_usable_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨4, ![512, 16, 8, 128]⟩ ⟨4, ![4096, 16, 8, 128]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![512, 16, 8, 128]⟩ ⟨4, ![4096, 16, 8, 128]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_usable_KernelIdeal : Cert.Pre_usable_KernelIdeal.Facts) (hPre_usable_ReferenceIdeal : Cert.Pre_usable_ReferenceIdeal.Facts),
    quiescent_Kernel (hKernel := hKernel)
    ∧ quiescent_KernelIdeal (hKernelIdeal := hKernelIdeal)
    ∧ quiescent_KernelIdeal_pre_usable_KernelIdeal (hKernelIdeal := hKernelIdeal) (hPre_usable_KernelIdeal := hPre_usable_KernelIdeal)
    ∧ quiescent_ReferenceIdeal (hReferenceIdeal := hReferenceIdeal)
    ∧ quiescent_ReferenceIdeal_pre_usable_ReferenceIdeal (hReferenceIdeal := hReferenceIdeal) (hPre_usable_ReferenceIdeal := hPre_usable_ReferenceIdeal)
    ∧ preserves_Kernel_KernelIdeal
    ∧ algebraic_KernelIdeal_ReferenceIdeal_pre_usable_KernelIdeal (hKernelIdeal := hKernelIdeal) (hReferenceIdeal := hReferenceIdeal) (hPre_usable_KernelIdeal := hPre_usable_KernelIdeal)
-- ==== Pre_usable_KernelIdeal.lean ====
abbrev S8x1x8x128 : Shape := ⟨4, ![8, 1, 8, 128]⟩
abbrev S512x16x8x128 : Shape := ⟨4, ![512, 16, 8, 128]⟩
abbrev S8x512 : Shape := ⟨2, ![8, 512]⟩
abbrev S8 : Shape := ⟨1, ![8]⟩
abbrev S_ : Shape := ⟨0, ![]⟩
abbrev S8x1 : Shape := ⟨2, ![8, 1]⟩

class Facts : Prop where
  bcast_S_S8x1x8x128 : S_.BroadcastsInDim S8x1x8x128 (![] : Fin 0 → Fin S8x1x8x128.rank)
  reducesTo_S8x1x8x128_S_d0_1_2_3 : S8x1x8x128.ReducesTo [0, 1, 2, 3] S_
  h_S_ : 0 < S_.numel
  bcast_S_S512x16x8x128 : S_.BroadcastsInDim S512x16x8x128 (![] : Fin 0 → Fin S512x16x8x128.rank)
  reducesTo_S512x16x8x128_S_d0_1_2_3 : S512x16x8x128.ReducesTo [0, 1, 2, 3] S_
  bcast_S8_S8x1_0 : S8.BroadcastsInDim S8x1 (![0] : Fin 1 → Fin S8x1.rank)
  bcast_S8x1_S8x512_0_1 : S8x1.BroadcastsInDim S8x512 (![0, 1] : Fin 2 → Fin S8x512.rank)
  bcast_S_S8x512 : S_.BroadcastsInDim S8x512 (![] : Fin 0 → Fin S8x512.rank)
  bcast_S_S8 : S_.BroadcastsInDim S8 (![] : Fin 0 → Fin S8.rank)

variable [Facts]

def fn_part1 {F : FTy → Type} [FloatOps F] (main_arg3 : IVec S8x512 32) (main_arg4 : IVec S8 32) (main_v12 : IVec S_ 1) (main_v16 : IVec S8x512 1) (main_c_4 : IVec S_ 32) : IVec S8x512 1 :=
  let main_v17 : IVec S8x512 32 := broadcastInDim S8x512 ![] bcast_S_S8x512 main_c_4
  let main_v18 : IVec S8x512 1 := cmpi .sge main_arg3 main_v17
  let main_c_5 : IVec S_ 32 := constantI S_ 32 4096#32
  let main_v19 : IVec S8x512 32 := broadcastInDim S8x512 ![] bcast_S_S8x512 main_c_5
  let main_v20 : IVec S8x512 1 := cmpi .slt main_arg3 main_v19
  let main_v21 : IVec S8x512 1 := andi main_v18 main_v20
  let main_v22 : IVec S8x512 1 := ori main_v16 main_v21
  let main_c_6 : IVec S_ 32 := constantI S_ 32 1#32
  let main_v23 : IVec S8 32 := broadcastInDim S8 ![] bcast_S_S8 main_c_6
  let main_v24 : IVec S8 1 := cmpi .sge main_arg4 main_v23
  let main_v25 : IVec S8x1 1 := broadcastInDim S8x1 ![0] bcast_S8_S8x1_0 main_v24
  let main_v26 : IVec S8x512 1 := broadcastInDim S8x512 ![0, 1] bcast_S8x1_S8x512_0_1 main_v25
  let main_v27 : IVec S8x512 1 := andi main_v22 main_v26
  let main_v28 : IVec S8x512 1 := broadcastInDim S8x512 ![] bcast_S_S8x512 main_v12
  let main_v29 : IVec S8x512 1 := andi main_v27 main_v28
  main_v29

def fn {F : FTy → Type} [FloatOps F] (main_arg0 : FVec F S8x1x8x128 .f32) (main_arg1 : FVec F S512x16x8x128 .f32) (main_arg2 : FVec F S512x16x8x128 .f32) (main_arg3 : IVec S8x512 32) (main_arg4 : IVec S8 32) : IVec S8x512 1 :=
  let main_cst : FVec F S_ .f32 := constant S_ .f32 0x7F800000#32
  let main_v0 : FVec F S8x1x8x128 .f32 := broadcastInDim S8x1x8x128 ![] bcast_S_S8x1x8x128 main_cst
  let main_v1 : IVec S8x1x8x128 1 := cmpf .olt main_arg0 main_v0
  let main_cst_0 : FVec F S_ .f32 := constant S_ .f32 0xFF800000#32
  let main_v2 : FVec F S8x1x8x128 .f32 := broadcastInDim S8x1x8x128 ![] bcast_S_S8x1x8x128 main_cst_0
  let main_v3 : IVec S8x1x8x128 1 := cmpf .ogt main_arg0 main_v2
  let main_v4 : IVec S8x1x8x128 1 := andi main_v1 main_v3
  let main_c : IVec S_ 1 := constantI S_ 1 1#1
  let main_v5 : IVec S_ 1 := (fun x v => Host.reduce IntOp.andi x v reducesTo_S8x1x8x128_S_d0_1_2_3 h_S_) main_v4 main_c
  let main_cst_1 : FVec F S_ .f32 := constant S_ .f32 0x7F800000#32
  let main_v6 : FVec F S512x16x8x128 .f32 := broadcastInDim S512x16x8x128 ![] bcast_S_S512x16x8x128 main_cst_1
  let main_v7 : IVec S512x16x8x128 1 := cmpf .olt main_arg1 main_v6
  let main_cst_2 : FVec F S_ .f32 := constant S_ .f32 0xFF800000#32
  let main_v8 : FVec F S512x16x8x128 .f32 := broadcastInDim S512x16x8x128 ![] bcast_S_S512x16x8x128 main_cst_2
  let main_v9 : IVec S512x16x8x128 1 := cmpf .ogt main_arg1 main_v8
  let main_v10 : IVec S512x16x8x128 1 := andi main_v7 main_v9
  let main_c_3 : IVec S_ 1 := constantI S_ 1 1#1
  let main_v11 : IVec S_ 1 := (fun x v => Host.reduce IntOp.andi x v reducesTo_S512x16x8x128_S_d0_1_2_3 h_S_) main_v10 main_c_3
  let main_v12 : IVec S_ 1 := andi main_v5 main_v11
  let main_v13 : IVec S8x512 32 := iotaInDim S8x512 32 1
  let main_v14 : IVec S8x1 32 := broadcastInDim S8x1 ![0] bcast_S8_S8x1_0 main_arg4
  let main_v15 : IVec S8x512 32 := broadcastInDim S8x512 ![0, 1] bcast_S8x1_S8x512_0_1 main_v14
  let main_v16 : IVec S8x512 1 := cmpi .sge main_v13 main_v15
  let main_c_4 : IVec S_ 32 := constantI S_ 32 0#32
  fn_part1 (F := F) main_arg3 main_arg4 main_v12 main_v16 main_c_4
-- ==== Pre_usable_ReferenceIdeal.lean ====
abbrev S8x1x8x128 : Shape := ⟨4, ![8, 1, 8, 128]⟩
abbrev S4096x16x8x128 : Shape := ⟨4, ![4096, 16, 8, 128]⟩
abbrev S8x512 : Shape := ⟨2, ![8, 512]⟩
abbrev S8 : Shape := ⟨1, ![8]⟩
abbrev S_ : Shape := ⟨0, ![]⟩
abbrev S8x1 : Shape := ⟨2, ![8, 1]⟩

class Facts : Prop where
  bcast_S_S8x1x8x128 : S_.BroadcastsInDim S8x1x8x128 (![] : Fin 0 → Fin S8x1x8x128.rank)
  reducesTo_S8x1x8x128_S_d0_1_2_3 : S8x1x8x128.ReducesTo [0, 1, 2, 3] S_
  h_S_ : 0 < S_.numel
  bcast_S_S4096x16x8x128 : S_.BroadcastsInDim S4096x16x8x128 (![] : Fin 0 → Fin S4096x16x8x128.rank)
  reducesTo_S4096x16x8x128_S_d0_1_2_3 : S4096x16x8x128.ReducesTo [0, 1, 2, 3] S_
  bcast_S8_S8x1_0 : S8.BroadcastsInDim S8x1 (![0] : Fin 1 → Fin S8x1.rank)
  bcast_S8x1_S8x512_0_1 : S8x1.BroadcastsInDim S8x512 (![0, 1] : Fin 2 → Fin S8x512.rank)
  bcast_S_S8x512 : S_.BroadcastsInDim S8x512 (![] : Fin 0 → Fin S8x512.rank)
  bcast_S_S8 : S_.BroadcastsInDim S8 (![] : Fin 0 → Fin S8.rank)

variable [Facts]

def fn_part1 {F : FTy → Type} [FloatOps F] (main_arg3 : IVec S8x512 32) (main_arg4 : IVec S8 32) (main_v12 : IVec S_ 1) (main_v16 : IVec S8x512 1) (main_c_4 : IVec S_ 32) : IVec S8x512 1 :=
  let main_v17 : IVec S8x512 32 := broadcastInDim S8x512 ![] bcast_S_S8x512 main_c_4
  let main_v18 : IVec S8x512 1 := cmpi .sge main_arg3 main_v17
  let main_c_5 : IVec S_ 32 := constantI S_ 32 4096#32
  let main_v19 : IVec S8x512 32 := broadcastInDim S8x512 ![] bcast_S_S8x512 main_c_5
  let main_v20 : IVec S8x512 1 := cmpi .slt main_arg3 main_v19
  let main_v21 : IVec S8x512 1 := andi main_v18 main_v20
  let main_v22 : IVec S8x512 1 := ori main_v16 main_v21
  let main_c_6 : IVec S_ 32 := constantI S_ 32 1#32
  let main_v23 : IVec S8 32 := broadcastInDim S8 ![] bcast_S_S8 main_c_6
  let main_v24 : IVec S8 1 := cmpi .sge main_arg4 main_v23
  let main_v25 : IVec S8x1 1 := broadcastInDim S8x1 ![0] bcast_S8_S8x1_0 main_v24
  let main_v26 : IVec S8x512 1 := broadcastInDim S8x512 ![0, 1] bcast_S8x1_S8x512_0_1 main_v25
  let main_v27 : IVec S8x512 1 := andi main_v22 main_v26
  let main_v28 : IVec S8x512 1 := broadcastInDim S8x512 ![] bcast_S_S8x512 main_v12
  let main_v29 : IVec S8x512 1 := andi main_v27 main_v28
  main_v29

def fn {F : FTy → Type} [FloatOps F] (main_arg0 : FVec F S8x1x8x128 .f32) (main_arg1 : FVec F S4096x16x8x128 .f32) (main_arg2 : FVec F S4096x16x8x128 .f32) (main_arg3 : IVec S8x512 32) (main_arg4 : IVec S8 32) : IVec S8x512 1 :=
  let main_cst : FVec F S_ .f32 := constant S_ .f32 0x7F800000#32
  let main_v0 : FVec F S8x1x8x128 .f32 := broadcastInDim S8x1x8x128 ![] bcast_S_S8x1x8x128 main_cst
  let main_v1 : IVec S8x1x8x128 1 := cmpf .olt main_arg0 main_v0
  let main_cst_0 : FVec F S_ .f32 := constant S_ .f32 0xFF800000#32
  let main_v2 : FVec F S8x1x8x128 .f32 := broadcastInDim S8x1x8x128 ![] bcast_S_S8x1x8x128 main_cst_0
  let main_v3 : IVec S8x1x8x128 1 := cmpf .ogt main_arg0 main_v2
  let main_v4 : IVec S8x1x8x128 1 := andi main_v1 main_v3
  let main_c : IVec S_ 1 := constantI S_ 1 1#1
  let main_v5 : IVec S_ 1 := (fun x v => Host.reduce IntOp.andi x v reducesTo_S8x1x8x128_S_d0_1_2_3 h_S_) main_v4 main_c
  let main_cst_1 : FVec F S_ .f32 := constant S_ .f32 0x7F800000#32
  let main_v6 : FVec F S4096x16x8x128 .f32 := broadcastInDim S4096x16x8x128 ![] bcast_S_S4096x16x8x128 main_cst_1
  let main_v7 : IVec S4096x16x8x128 1 := cmpf .olt main_arg1 main_v6
  let main_cst_2 : FVec F S_ .f32 := constant S_ .f32 0xFF800000#32
  let main_v8 : FVec F S4096x16x8x128 .f32 := broadcastInDim S4096x16x8x128 ![] bcast_S_S4096x16x8x128 main_cst_2
  let main_v9 : IVec S4096x16x8x128 1 := cmpf .ogt main_arg1 main_v8
  let main_v10 : IVec S4096x16x8x128 1 := andi main_v7 main_v9
  let main_c_3 : IVec S_ 1 := constantI S_ 1 1#1
  let main_v11 : IVec S_ 1 := (fun x v => Host.reduce IntOp.andi x v reducesTo_S4096x16x8x128_S_d0_1_2_3 h_S_) main_v10 main_c_3
  let main_v12 : IVec S_ 1 := andi main_v5 main_v11
  let main_v13 : IVec S8x512 32 := iotaInDim S8x512 32 1
  let main_v14 : IVec S8x1 32 := broadcastInDim S8x1 ![0] bcast_S8_S8x1_0 main_arg4
  let main_v15 : IVec S8x512 32 := broadcastInDim S8x512 ![0, 1] bcast_S8x1_S8x512_0_1 main_v14
  let main_v16 : IVec S8x512 1 := cmpi .sge main_v13 main_v15
  let main_c_4 : IVec S_ 32 := constantI S_ 32 0#32
  fn_part1 (F := F) main_arg3 main_arg4 main_v12 main_v16 main_c_4
-- ==== Kernel.lean ====
abbrev S8x1x8x128 : Shape := ⟨4, ![8, 1, 8, 128]⟩
abbrev S512x16x8x128 : Shape := ⟨4, ![512, 16, 8, 128]⟩
abbrev S8x512 : Shape := ⟨2, ![8, 512]⟩
abbrev S8 : Shape := ⟨1, ![8]⟩
abbrev S2x8x128x16x128 : Shape := ⟨5, ![2, 8, 128, 16, 128]⟩
abbrev S2x2x8 : Shape := ⟨3, ![2, 2, 8]⟩
abbrev S8x8x8x128 : Shape := ⟨4, ![8, 8, 8, 128]⟩
abbrev S8x2x8x8 : Shape := ⟨4, ![8, 2, 8, 8]⟩
abbrev S8x2 : Shape := ⟨2, ![8, 2]⟩
abbrev S1x1x1 : Shape := ⟨3, ![1, 1, 1]⟩
abbrev S_ : Shape := ⟨0, ![]⟩
abbrev S1x1x128x16x128 : Shape := ⟨5, ![1, 1, 128, 16, 128]⟩
abbrev S128x16x128 : Shape := ⟨3, ![128, 16, 128]⟩
abbrev S128x16x1x128 : Shape := ⟨4, ![128, 16, 1, 128]⟩
abbrev S1x512 : Shape := ⟨2, ![1, 512]⟩
abbrev S1 : Shape := ⟨1, ![1]⟩
abbrev S512x512 : Shape := ⟨2, ![512, 512]⟩
abbrev S512 : Shape := ⟨1, ![512]⟩
abbrev S512x1 : Shape := ⟨2, ![512, 1]⟩
abbrev S512x8 : Shape := ⟨2, ![512, 8]⟩
abbrev S128x2048 : Shape := ⟨2, ![128, 2048]⟩
abbrev S8x128 : Shape := ⟨2, ![8, 128]⟩
abbrev S8x2048 : Shape := ⟨2, ![8, 2048]⟩
abbrev S8x1x1x128 : Shape := ⟨4, ![8, 1, 1, 128]⟩
abbrev S2048x128 : Shape := ⟨2, ![2048, 128]⟩
abbrev S8x1 : Shape := ⟨2, ![8, 1]⟩
abbrev S8x4 : Shape := ⟨2, ![8, 4]⟩
abbrev S8x1x128 : Shape := ⟨3, ![8, 1, 128]⟩
abbrev S8x8 : Shape := ⟨2, ![8, 8]⟩
abbrev S8x8x128 : Shape := ⟨3, ![8, 8, 128]⟩
abbrev S1x8x8x128 : Shape := ⟨4, ![1, 8, 8, 128]⟩
abbrev S1x8x8 : Shape := ⟨3, ![1, 8, 8]⟩
abbrev S2x8x8 : Shape := ⟨3, ![2, 8, 8]⟩
abbrev S1x2x8x8 : Shape := ⟨4, ![1, 2, 8, 8]⟩
abbrev S1x1 : Shape := ⟨2, ![1, 1]⟩
abbrev S8x1x8x8 : Shape := ⟨4, ![8, 1, 8, 8]⟩
abbrev S8x8x8 : Shape := ⟨3, ![8, 8, 8]⟩
abbrev S8x8x8x1 : Shape := ⟨4, ![8, 8, 8, 1]⟩
abbrev S8x8x1 : Shape := ⟨3, ![8, 8, 1]⟩

abbrev nBuf : Space → Nat
  | .hbm => 6
  | .vmem => 7
  | .smem => 1
  | _ => 0

abbrev bufTy : (tb : Table) → Fin (tcTables nBuf tb) → BufTy
  | .hbm, ⟨0, _⟩ => ⟨S8x1x8x128, .f32⟩
  | .hbm, ⟨1, _⟩ => ⟨S512x16x8x128, .f32⟩
  | .hbm, ⟨2, _⟩ => ⟨S512x16x8x128, .f32⟩
  | .hbm, ⟨3, _⟩ => ⟨S8x512, .i32⟩
  | .hbm, ⟨4, _⟩ => ⟨S8, .i32⟩
  | .hbm, ⟨5, _⟩ => ⟨S8x1x8x128, .f32⟩
  | .local _ .vmem, ⟨0, _⟩ => ⟨S8x1x8x128, .f32⟩
  | .local _ .vmem, ⟨1, _⟩ => ⟨S8x512, .i32⟩
  | .local _ .vmem, ⟨2, _⟩ => ⟨S8x1x8x128, .f32⟩
  | .local _ .vmem, ⟨3, _⟩ => ⟨S2x8x128x16x128, .f32⟩
  | .local _ .vmem, ⟨4, _⟩ => ⟨S2x8x128x16x128, .f32⟩
  | .local _ .vmem, ⟨5, _⟩ => ⟨S8x8x8x128, .f32⟩
  | .local _ .vmem, ⟨6, _⟩ => ⟨S8x2x8x8, .f32⟩
  | .local _ .smem, ⟨0, _⟩ => ⟨S8, .i32⟩
  | _, _ => ⟨S8x1x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch3 : Ref sig .tc := ⟨.vmem, 5, rfl⟩
abbrev cc0_scratch4 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_185 : BitVec 32 := 1#32
  let v100 : BitVec 32 := Scalar.addi v2 c1_i32_185
  let c8_i32_186 : BitVec 32 := 8#32
  let v101 : BitVec 32 := Scalar.remsi v100 c8_i32_186
  let c1_i32_188 : BitVec 32 := 1#32
  let v102 : BitVec 32 := Scalar.muli v101 c1_i32_188
  let v103 : BitVec 32 := Scalar.addi c0_i32_189 v102
  v103.toNat
def k0_dev2 (d0 : Dev nD) : Nat :=
  let c0_i32_194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_190 : BitVec 32 := 2#32
  let v104 : BitVec 32 := Scalar.addi v2 c2_i32_190
  let c8_i32_191 : BitVec 32 := 8#32
  let v105 : BitVec 32 := Scalar.remsi v104 c8_i32_191
  let c1_i32_193 : BitVec 32 := 1#32
  let v106 : BitVec 32 := Scalar.muli v105 c1_i32_193
  let v107 : BitVec 32 := Scalar.addi c0_i32_194 v106
  v107.toNat
def k0_dev3 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_195 : BitVec 32 := 3#32
  let v108 : BitVec 32 := Scalar.addi v2 c3_i32_195
  let c8_i32_196 : BitVec 32 := 8#32
  let v109 : BitVec 32 := Scalar.remsi v108 c8_i32_196
  let c1_i32_198 : BitVec 32 := 1#32
  let v110 : BitVec 32 := Scalar.muli v109 c1_i32_198
  let v111 : BitVec 32 := Scalar.addi c0_i32_199 v110
  v111.toNat
def k0_dev4 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_200 : BitVec 32 := 4#32
  let v112 : BitVec 32 := Scalar.addi v2 c4_i32_200
  let c8_i32_201 : BitVec 32 := 8#32
  let v113 : BitVec 32 := Scalar.remsi v112 c8_i32_201
  let c1_i32_203 : BitVec 32 := 1#32
  let v114 : BitVec 32 := Scalar.muli v113 c1_i32_203
  let v115 : BitVec 32 := Scalar.addi c0_i32_204 v114
  v115.toNat
def k0_dev5 (d0 : Dev nD) : Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_205 : BitVec 32 := 5#32
  let v116 : BitVec 32 := Scalar.addi v2 c5_i32_205
  let c8_i32_206 : BitVec 32 := 8#32
  let v117 : BitVec 32 := Scalar.remsi v116 c8_i32_206
  let c1_i32_208 : BitVec 32 := 1#32
  let v118 : BitVec 32 := Scalar.muli v117 c1_i32_208
  let v119 : BitVec 32 := Scalar.addi c0_i32_209 v118
  v119.toNat
def k0_dev6 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_210 : BitVec 32 := 6#32
  let v120 : BitVec 32 := Scalar.addi v2 c6_i32_210
  let c8_i32_211 : BitVec 32 := 8#32
  let v121 : BitVec 32 := Scalar.remsi v120 c8_i32_211
  let c1_i32_213 : BitVec 32 := 1#32
  let v122 : BitVec 32 := Scalar.muli v121 c1_i32_213
  let v123 : BitVec 32 := Scalar.addi c0_i32_214 v122
  v123.toNat
def k0_dev7 (d0 : Dev nD) : Nat :=
  let c0_i32_219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_215 : BitVec 32 := 7#32
  let v124 : BitVec 32 := Scalar.addi v2 c7_i32_215
  let c8_i32_216 : BitVec 32 := 8#32
  let v125 : BitVec 32 := Scalar.remsi v124 c8_i32_216
  let c1_i32_218 : BitVec 32 := 1#32
  let v126 : BitVec 32 := Scalar.muli v125 c1_i32_218
  let v127 : BitVec 32 := Scalar.addi c0_i32_219 v126
  v127.toNat
def k0_off1 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1837 : Index := Scalar.indexCast v2
  let c0_2234 : Index := 0#32
  let c0_2235 : Index := 0#32
  let c0_2236 : Index := 0#32
  ![v1837.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1845 : Index := Scalar.indexCast v2
  let c0_2237 : Index := 0#32
  let c0_2238 : Index := 0#32
  let c0_2239 : Index := 0#32
  ![v1845.toNat, 0, 0, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2242 : BitVec 32 := 0#32
  ![v2.toNat, 0]
def k0_off4 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2247 : BitVec 32 := 0#32
  let c0_i32_2248 : BitVec 32 := 0#32
  let c0_i32_2249 : BitVec 32 := 0#32
  ![v2.toNat, 0, 0, 0]
def k0_dev8 (d0 : Dev nD) : Nat :=
  let c0_i32_2246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2240 : BitVec 32 := 1#32
  let v1849 : BitVec 32 := Scalar.addi v2 c1_i32_2240
  let c8_i32_2241 : BitVec 32 := 8#32
  let v1850 : BitVec 32 := Scalar.remsi v1849 c8_i32_2241
  let c1_i32_2245 : BitVec 32 := 1#32
  let v1851 : BitVec 32 := Scalar.muli v1850 c1_i32_2245
  let v1852 : BitVec 32 := Scalar.addi c0_i32_2246 v1851
  v1852.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2253 : BitVec 32 := 1#32
  ![v2.toNat, 1]
def k0_off6 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2258 : BitVec 32 := 0#32
  let c0_i32_2259 : BitVec 32 := 0#32
  let c0_i32_2260 : BitVec 32 := 0#32
  ![v2.toNat, 0, 0, 0]
def k0_dev9 (d0 : Dev nD) : Nat :=
  let c0_i32_2257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2240 : BitVec 32 := 1#32
  let v1849 : BitVec 32 := Scalar.addi v2 c1_i32_2240
  let c8_i32_2241 : BitVec 32 := 8#32
  let v1850 : BitVec 32 := Scalar.remsi v1849 c8_i32_2241
  let c1_i32_2256 : BitVec 32 := 1#32
  let v1861 : BitVec 32 := Scalar.muli v1850 c1_i32_2256
  let v1862 : BitVec 32 := Scalar.addi c0_i32_2257 v1861
  v1862.toNat
def k0_dev10 (d0 : Dev nD) : Nat :=
  let c0_i32_2270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2264 : BitVec 32 := 2#32
  let v1871 : BitVec 32 := Scalar.addi v2 c2_i32_2264
  let c8_i32_2265 : BitVec 32 := 8#32
  let v1872 : BitVec 32 := Scalar.remsi v1871 c8_i32_2265
  let c1_i32_2269 : BitVec 32 := 1#32
  let v1873 : BitVec 32 := Scalar.muli v1872 c1_i32_2269
  let v1874 : BitVec 32 := Scalar.addi c0_i32_2270 v1873
  v1874.toNat
def k0_dev11 (d0 : Dev nD) : Nat :=
  let c0_i32_2281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2264 : BitVec 32 := 2#32
  let v1871 : BitVec 32 := Scalar.addi v2 c2_i32_2264
  let c8_i32_2265 : BitVec 32 := 8#32
  let v1872 : BitVec 32 := Scalar.remsi v1871 c8_i32_2265
  let c1_i32_2280 : BitVec 32 := 1#32
  let v1883 : BitVec 32 := Scalar.muli v1872 c1_i32_2280
  let v1884 : BitVec 32 := Scalar.addi c0_i32_2281 v1883
  v1884.toNat
def k0_dev12 (d0 : Dev nD) : Nat :=
  let c0_i32_2294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2288 : BitVec 32 := 3#32
  let v1893 : BitVec 32 := Scalar.addi v2 c3_i32_2288
  let c8_i32_2289 : BitVec 32 := 8#32
  let v1894 : BitVec 32 := Scalar.remsi v1893 c8_i32_2289
  let c1_i32_2293 : BitVec 32 := 1#32
  let v1895 : BitVec 32 := Scalar.muli v1894 c1_i32_2293
  let v1896 : BitVec 32 := Scalar.addi c0_i32_2294 v1895
  v1896.toNat
def k0_dev13 (d0 : Dev nD) : Nat :=
  let c0_i32_2305 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2288 : BitVec 32 := 3#32
  let v1893 : BitVec 32 := Scalar.addi v2 c3_i32_2288
  let c8_i32_2289 : BitVec 32 := 8#32
  let v1894 : BitVec 32 := Scalar.remsi v1893 c8_i32_2289
  let c1_i32_2304 : BitVec 32 := 1#32
  let v1905 : BitVec 32 := Scalar.muli v1894 c1_i32_2304
  let v1906 : BitVec 32 := Scalar.addi c0_i32_2305 v1905
  v1906.toNat
def k0_dev14 (d0 : Dev nD) : Nat :=
  let c0_i32_2318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2312 : BitVec 32 := 4#32
  let v1915 : BitVec 32 := Scalar.addi v2 c4_i32_2312
  let c8_i32_2313 : BitVec 32 := 8#32
  let v1916 : BitVec 32 := Scalar.remsi v1915 c8_i32_2313
  let c1_i32_2317 : BitVec 32 := 1#32
  let v1917 : BitVec 32 := Scalar.muli v1916 c1_i32_2317
  let v1918 : BitVec 32 := Scalar.addi c0_i32_2318 v1917
  v1918.toNat
def k0_dev15 (d0 : Dev nD) : Nat :=
  let c0_i32_2329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2312 : BitVec 32 := 4#32
  let v1915 : BitVec 32 := Scalar.addi v2 c4_i32_2312
  let c8_i32_2313 : BitVec 32 := 8#32
  let v1916 : BitVec 32 := Scalar.remsi v1915 c8_i32_2313
  let c1_i32_2328 : BitVec 32 := 1#32
  let v1927 : BitVec 32 := Scalar.muli v1916 c1_i32_2328
  let v1928 : BitVec 32 := Scalar.addi c0_i32_2329 v1927
  v1928.toNat
def k0_dev16 (d0 : Dev nD) : Nat :=
  let c0_i32_2342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2336 : BitVec 32 := 5#32
  let v1937 : BitVec 32 := Scalar.addi v2 c5_i32_2336
  let c8_i32_2337 : BitVec 32 := 8#32
  let v1938 : BitVec 32 := Scalar.remsi v1937 c8_i32_2337
  let c1_i32_2341 : BitVec 32 := 1#32
  let v1939 : BitVec 32 := Scalar.muli v1938 c1_i32_2341
  let v1940 : BitVec 32 := Scalar.addi c0_i32_2342 v1939
  v1940.toNat
def k0_dev17 (d0 : Dev nD) : Nat :=
  let c0_i32_2353 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2336 : BitVec 32 := 5#32
  let v1937 : BitVec 32 := Scalar.addi v2 c5_i32_2336
  let c8_i32_2337 : BitVec 32 := 8#32
  let v1938 : BitVec 32 := Scalar.remsi v1937 c8_i32_2337
  let c1_i32_2352 : BitVec 32 := 1#32
  let v1949 : BitVec 32 := Scalar.muli v1938 c1_i32_2352
  let v1950 : BitVec 32 := Scalar.addi c0_i32_2353 v1949
  v1950.toNat
def k0_dev18 (d0 : Dev nD) : Nat :=
  let c0_i32_2366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2360 : BitVec 32 := 6#32
  let v1959 : BitVec 32 := Scalar.addi v2 c6_i32_2360
  let c8_i32_2361 : BitVec 32 := 8#32
  let v1960 : BitVec 32 := Scalar.remsi v1959 c8_i32_2361
  let c1_i32_2365 : BitVec 32 := 1#32
  let v1961 : BitVec 32 := Scalar.muli v1960 c1_i32_2365
  let v1962 : BitVec 32 := Scalar.addi c0_i32_2366 v1961
  v1962.toNat
def k0_dev19 (d0 : Dev nD) : Nat :=
  let c0_i32_2377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2360 : BitVec 32 := 6#32
  let v1959 : BitVec 32 := Scalar.addi v2 c6_i32_2360
  let c8_i32_2361 : BitVec 32 := 8#32
  let v1960 : BitVec 32 := Scalar.remsi v1959 c8_i32_2361
  let c1_i32_2376 : BitVec 32 := 1#32
  let v1971 : BitVec 32 := Scalar.muli v1960 c1_i32_2376
  let v1972 : BitVec 32 := Scalar.addi c0_i32_2377 v1971
  v1972.toNat
def k0_dev20 (d0 : Dev nD) : Nat :=
  let c0_i32_2390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2384 : BitVec 32 := 7#32
  let v1981 : BitVec 32 := Scalar.addi v2 c7_i32_2384
  let c8_i32_2385 : BitVec 32 := 8#32
  let v1982 : BitVec 32 := Scalar.remsi v1981 c8_i32_2385
  let c1_i32_2389 : BitVec 32 := 1#32
  let v1983 : BitVec 32 := Scalar.muli v1982 c1_i32_2389
  let v1984 : BitVec 32 := Scalar.addi c0_i32_2390 v1983
  v1984.toNat
def k0_dev21 (d0 : Dev nD) : Nat :=
  let c0_i32_2401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2384 : BitVec 32 := 7#32
  let v1981 : BitVec 32 := Scalar.addi v2 c7_i32_2384
  let c8_i32_2385 : BitVec 32 := 8#32
  let v1982 : BitVec 32 := Scalar.remsi v1981 c8_i32_2385
  let c1_i32_2400 : BitVec 32 := 1#32
  let v1993 : BitVec 32 := Scalar.muli v1982 c1_i32_2400
  let v1994 : BitVec 32 := Scalar.addi c0_i32_2401 v1993
  v1994.toNat
def k0_off7 (d0 : Dev nD) (c1_i32_2408 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2003 : BitVec 32 := Scalar.addi v2 c1_i32_2408
  let c8_i32_2409 : BitVec 32 := 8#32
  let v2004 : BitVec 32 := Scalar.remsi v2003 c8_i32_2409
  let c0_i32_2410 : BitVec 32 := 0#32
  ![v2004.toNat, 0]
def k0_off8 (d0 : Dev nD) (c1_i32_2408 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2003 : BitVec 32 := Scalar.addi v2 c1_i32_2408
  let c8_i32_2409 : BitVec 32 := 8#32
  let v2004 : BitVec 32 := Scalar.remsi v2003 c8_i32_2409
  let c0_i32_2415 : BitVec 32 := 0#32
  let c0_i32_2416 : BitVec 32 := 0#32
  let c0_i32_2417 : BitVec 32 := 0#32
  ![v2004.toNat, 0, 0, 0]
def k0_off9 (d0 : Dev nD) (c1_i32_2408 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2003 : BitVec 32 := Scalar.addi v2 c1_i32_2408
  let c8_i32_2409 : BitVec 32 := 8#32
  let v2004 : BitVec 32 := Scalar.remsi v2003 c8_i32_2409
  let c1_i32_2421 : BitVec 32 := 1#32
  ![v2004.toNat, 1]
def k0_off10 (d0 : Dev nD) (c1_i32_2408 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v2003 : BitVec 32 := Scalar.addi v2 c1_i32_2408
  let c8_i32_2409 : BitVec 32 := 8#32
  let v2004 : BitVec 32 := Scalar.remsi v2003 c8_i32_2409
  let c0_i32_2426 : BitVec 32 := 0#32
  let c0_i32_2427 : BitVec 32 := 0#32
  let c0_i32_2428 : BitVec 32 := 0#32
  ![v2004.toNat, 0, 0, 0]
abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S8x1x8x128 : Shape := ⟨4, ![8, 1, 8, 128]⟩
abbrev S4096x16x8x128 : Shape := ⟨4, ![4096, 16, 8, 128]⟩
abbrev S8x512 : Shape := ⟨2, ![8, 512]⟩
abbrev S8 : Shape := ⟨1, ![8]⟩
abbrev S_ : Shape := ⟨0, ![]⟩
abbrev S8x512x1 : Shape := ⟨3, ![8, 512, 1]⟩
abbrev S8x512x16x8x128 : Shape := ⟨5, ![8, 512, 16, 8, 128]⟩
abbrev S8x8192x8x128 : Shape := ⟨4, ![8, 8192, 8, 128]⟩
abbrev S8x8x1x8192 : Shape := ⟨4, ![8, 8, 1, 8192]⟩
abbrev S8x1x1x1 : Shape := ⟨4, ![8, 1, 1, 1]⟩
abbrev S8x8x1 : Shape := ⟨3, ![8, 8, 1]⟩
abbrev S8x8x1x1 : Shape := ⟨4, ![8, 8, 1, 1]⟩
abbrev S8x8x128x1 : Shape := ⟨4, ![8, 8, 128, 1]⟩

abbrev nBuf : Space → Nat
  | .hbm => 69
  | .vmem => 0
  | .smem => 0
  | _ => 0

abbrev bufTy : (tb : Table) → Fin (tcTables nBuf tb) → BufTy
  | .hbm, ⟨0, _⟩ => ⟨S8x1x8x128, .f32⟩
  | .hbm, ⟨1, _⟩ => ⟨S4096x16x8x128, .f32⟩
  | .hbm, ⟨2, _⟩ => ⟨S4096x16x8x128, .f32⟩
  | .hbm, ⟨3, _⟩ => ⟨S8x512, .i32⟩
  | .hbm, ⟨4, _⟩ => ⟨S8, .i32⟩
  | .hbm, ⟨5, _⟩ => ⟨S_, .i32⟩
  | .hbm, ⟨6, _⟩ => ⟨S8x512, .i32⟩
  | .hbm, ⟨7, _⟩ => ⟨S8x512, .i1⟩
  | .hbm, ⟨8, _⟩ => ⟨S_, .i32⟩
  | .hbm, ⟨9, _⟩ => ⟨S8x512, .i32⟩
  | .hbm, ⟨10, _⟩ => ⟨S8x512, .i32⟩
  | .hbm, ⟨11, _⟩ => ⟨S8x512, .i32⟩
  | .hbm, ⟨12, _⟩ => ⟨S8x512x1, .i32⟩
  | .hbm, ⟨13, _⟩ => ⟨S8x512x16x8x128, .f32⟩
  | .hbm, ⟨14, _⟩ => ⟨S8x8192x8x128, .f32⟩
  | .hbm, ⟨15, _⟩ => ⟨S_, .i32⟩
  | .hbm, ⟨16, _⟩ => ⟨S8x512, .i32⟩
  | .hbm, ⟨17, _⟩ => ⟨S8x512, .i1⟩
  | .hbm, ⟨18, _⟩ => ⟨S_, .i32⟩
  | .hbm, ⟨19, _⟩ => ⟨S8x512, .i32⟩
  | .hbm, ⟨20, _⟩ => ⟨S8x512, .i32⟩
  | .hbm, ⟨21, _⟩ => ⟨S8x512, .i32⟩
  | .hbm, ⟨22, _⟩ => ⟨S8x512x1, .i32⟩
  | .hbm, ⟨23, _⟩ => ⟨S8x512x16x8x128, .f32⟩
  | .hbm, ⟨24, _⟩ => ⟨S8x8192x8x128, .f32⟩
  | .hbm, ⟨25, _⟩ => ⟨S8x8x1x8192, .f32⟩
  | .hbm, ⟨26, _⟩ => ⟨S_, .f32⟩
  | .hbm, ⟨27, _⟩ => ⟨S_, .f32⟩
  | .hbm, ⟨28, _⟩ => ⟨S8x8x1x8192, .f32⟩
  | .hbm, ⟨29, _⟩ => ⟨S8x8x1x8192, .f32⟩
  | .hbm, ⟨30, _⟩ => ⟨S8x8x1x8192, .i32⟩
  | .hbm, ⟨31, _⟩ => ⟨S_, .i32⟩
  | .hbm, ⟨32, _⟩ => ⟨S_, .i32⟩
  | .hbm, ⟨33, _⟩ => ⟨S8x8x1x8192, .i32⟩
  | .hbm, ⟨34, _⟩ => ⟨S8x8x1x8192, .i32⟩
  | .hbm, ⟨35, _⟩ => ⟨S8x8x1x8192, .i32⟩
  | .hbm, ⟨36, _⟩ => ⟨S_, .i32⟩
  | .hbm, ⟨37, _⟩ => ⟨S8x8x1x8192, .i32⟩
  | .hbm, ⟨38, _⟩ => ⟨S8x8x1x8192, .i1⟩
  | .hbm, ⟨39, _⟩ => ⟨S8x8x1x8192, .i32⟩
  | .hbm, ⟨40, _⟩ => ⟨S8x8x1x8192, .i32⟩
  | .hbm, ⟨41, _⟩ => ⟨S_, .i32⟩
  | .hbm, ⟨42, _⟩ => ⟨S8x8x1x8192, .i32⟩
  | .hbm, ⟨43, _⟩ => ⟨S8x8x1x8192, .i1⟩
  | .hbm, ⟨44, _⟩ => ⟨S8x8x1x8192, .i1⟩
  | .hbm, ⟨45, _⟩ => ⟨S_, .i32⟩
  | .hbm, ⟨46, _⟩ => ⟨S8x8x1x8192, .i32⟩
  | .hbm, ⟨47, _⟩ => ⟨S8x8x1x8192, .i32⟩
  | .hbm, ⟨48, _⟩ => ⟨S8x8x1x8192, .i32⟩
  | .hbm, ⟨49, _⟩ => ⟨S8x1x1x1, .i32⟩
  | .hbm, ⟨50, _⟩ => ⟨S8x8x1x8192, .i32⟩
  | .hbm, ⟨51, _⟩ => ⟨S8x8x1x8192, .i1⟩
  | .hbm, ⟨52, _⟩ => ⟨S_, .f32⟩
  | .hbm, ⟨53, _⟩ => ⟨S_, .f32⟩
  | .hbm, ⟨54, _⟩ => ⟨S8x8x1x8192, .f32⟩
  | .hbm, ⟨55, _⟩ => ⟨S8x8x1x8192, .f32⟩
  | .hbm, ⟨56, _⟩ => ⟨S_, .f32⟩
  | .hbm, ⟨57, _⟩ => ⟨S8x8x1, .f32⟩
  | .hbm, ⟨58, _⟩ => ⟨S8x8x1x1, .f32⟩
  | .hbm, ⟨59, _⟩ => ⟨S8x8x1x8192, .f32⟩
  | .hbm, ⟨60, _⟩ => ⟨S8x8x1x8192, .f32⟩
  | .hbm, ⟨61, _⟩ => ⟨S8x8x1x8192, .f32⟩
  | .hbm, ⟨62, _⟩ => ⟨S_, .f32⟩
  | .hbm, ⟨63, _⟩ => ⟨S8x8x1, .f32⟩
  | .hbm, ⟨64, _⟩ => ⟨S8x8x1x1, .f32⟩
  | .hbm, ⟨65, _⟩ => ⟨S8x8x1x8192, .f32⟩
  | .hbm, ⟨66, _⟩ => ⟨S8x8x1x8192, .f32⟩
  | .hbm, ⟨67, _⟩ => ⟨S8x8x128x1, .f32⟩
  | .hbm, ⟨68, _⟩ => ⟨S8x1x8x128, .f32⟩
  | _, _ => ⟨S8x1x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_4 : Ref sig .tc := ⟨.hbm, 52, rfl⟩
abbrev main_call1_v0 : Ref sig .tc := ⟨.hbm, 53, rfl⟩
abbrev main_call1_v1 : Ref sig .tc := ⟨.hbm, 54, rfl⟩
abbrev main_v25 : Ref sig .tc := ⟨.hbm, 55, rfl⟩
abbrev main_cst_5 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_6 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩

abbrev nD : Nat := 1
abbrev τ : Topo := Topo.v7x

variable {F : FTy → Type} [FloatOps F]
-- ==== Proof.Base.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The rounds library's resources for this kernel, a duty named by the device that pays it. -/
abbrev UB : Type := URounds (GSem nD τ sig) (Fin 8)
/-- The pipeline's resources, this kernel's, and the counters its local copies draw on. -/
abbrev UU : Type := UR sig nD τ × (UB × Counters)
/-- The machine's resources. What a core owes is split in two: `false` for its own local copies, `true` for what it owes its peers. -/
abbrev MM (F : FTy → Type) : Type := MT nD τ sig Bool (Elt F) ℕ UU ℕ

abbrev EP : Emb (UR sig nD τ) (MM F) := embL
abbrev ER : Emb UB (MM F) :=
  ((Emb.inl : Emb UB (UB × Counters)).trans (Emb.inr : Emb (UB × Counters) UU)).trans
    (uEmb (nD := nD) (τ := τ) (sig := sig) (Ix := Bool) (Val := Elt F) (Name := ℕ) (U := UU) (Lvl := ℕ)).toEmb

end Cert.Paged

end
-- ==== Proof.Protocol.lean ====
module

public import proofs.«01_k».proof.Proof.Base
public import Idealize.ShloMosaic.Lib.Rounds
public import Idealize.ShloMosaic.Lib.ShareLeaves

@[expose] public section

noncomputable section

/-!
# The exchange between the devices

Every device tells every other one, with one signal on the barrier semaphore, that the slots of its gather buffers are
ready; then it sends its partial result (slot `c` of `o_gat` and of `ml_gat`) to all of them. This file states the
semaphores, who pays which, what a payment hands over, and the levels that order the waits.
-/

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MM F

/-! ## Devices and semaphores -/

/-- The device `o` places after `c` around the ring of eight. -/
def nb (c : Dev nD) (o : Fin 8) : Dev nD := ⟨(c.val + o.val) % 8, Nat.mod_lt _ (by decide)⟩

theorem nb_zero (c : Dev nD) : nb c 0 = c := by revert c; decide
theorem nb_ne (c : Dev nD) (o : Fin 8) (h : o ≠ 0) : nb c o ≠ c := by revert c o; decide
theorem nb_inj (c : Dev nD) (o o' : Fin 8) (h : nb c o = nb c o') : o = o' := by revert c o o'; decide

/-- The offsets `0, …, 7` from `c` are the eight devices. -/
def nbEquiv (c : Dev nD) : Fin 8 ≃ Dev nD :=
  Equiv.ofBijective (nb c) ⟨fun o o' h => nb_inj c o o' h, by revert c; decide⟩

/-- The barrier semaphore all devices signal. -/
abbrev barS : Sem sig := (SemArray.scalar (sig.barrier 0 rfl) : Sems sig S_).sem
/-- The semaphore of the send at offset `o`: `k = 0` for the weighted sum, `1` for the maxima and sums. -/
def sendS (o : Fin 8) (k : Fin 2) : DmaSem sig := ⟨36 + (2 * o.val + k.val), by show _ < 68; omega⟩
/-- The semaphore on which the arrival from device `s` is counted. -/
def recvS (s : Fin 8) (k : Fin 2) : DmaSem sig := ⟨52 + (2 * s.val + k.val), by show _ < 68; omega⟩
/-- The semaphore of a local copy: buffer half `a`, array `k` (keys, values), head `h`. -/
def copyS (a k : Fin 2) (h : Fin 8) : DmaSem sig := ⟨4 + (16 * a.val + 8 * k.val + h.val), by show _ < 68; omega⟩

abbrev barCell (c : Dev nD) : GSem nD τ sig := ((c : Thread nD τ), .reg barS)
abbrev sendCell (c : Dev nD) (o : Fin 8) (k : Fin 2) : GSem nD τ sig := ((c : Thread nD τ), .dma (sendS o k))
abbrev recvCell (c : Dev nD) (s : Fin 8) (k : Fin 2) : GSem nD τ sig := ((c : Thread nD τ), .dma (recvS s k))

/-- The cells of one device: its barrier, its sends, its arrivals. -/
abbrev KC : Type := Unit ⊕ ((Fin 8 × Fin 2) ⊕ (Fin 8 × Fin 2))
/-- The device's own semaphores: its copies, its sends, its arrivals. -/
abbrev OC : Type := (Fin 2 × Fin 2 × Fin 8) ⊕ ((Fin 8 × Fin 2) ⊕ (Fin 8 × Fin 2))

def csem : KC → SemLoc sig
  | .inl _ => .reg barS
  | .inr (.inl p) => .dma (sendS p.1 p.2)
  | .inr (.inr p) => .dma (recvS p.1 p.2)
def osem : OC → SemLoc sig
  | .inl p => .dma (copyS p.1 p.2.1 p.2.2)
  | .inr (.inl p) => .dma (sendS p.1 p.2)
  | .inr (.inr p) => .dma (recvS p.1 p.2)
def kcell (p : Dev nD × KC) : GSem nD τ sig := ((p.1 : Thread nD τ), csem p.2)

theorem csem_inj : Function.Injective csem := by
  rintro (_ | ⟨o, k⟩ | ⟨o, k⟩) (_ | ⟨o', k'⟩ | ⟨o', k'⟩) h <;>
    simp only [csem, sendS, recvS, SemLoc.dma.injEq, Fin.mk.injEq, reduceCtorEq] at h <;> first | rfl | skip
  all_goals first
    | (exfalso; omega)
    | (have h1 : o = o' := Fin.ext (by omega)
       have h2 : k = k' := Fin.ext (by omega)
       rw [h1, h2])

theorem osem_inj : Function.Injective osem := by
  rintro (⟨a, k, h⟩ | ⟨o, k⟩ | ⟨o, k⟩) (⟨a', k', h'⟩ | ⟨o', k'⟩ | ⟨o', k'⟩) e <;>
    simp only [osem, copyS, sendS, recvS, SemLoc.dma.injEq, Fin.mk.injEq, reduceCtorEq] at e
  all_goals first
    | (exfalso; omega)
    | (have h1 : o = o' := Fin.ext (by omega)
       have h2 : k = k' := Fin.ext (by omega)
       rw [h1, h2])
    | (have h1 : a = a' := Fin.ext (by omega)
       have h2 : k = k' := Fin.ext (by omega)
       have h3 : h = h' := Fin.ext (by omega)
       rw [h1, h2, h3])

theorem kcell_inj : Function.Injective kcell := by
  rintro ⟨c, i⟩ ⟨c', i'⟩ h
  have h1 : c = c' := congrArg (fun g : GSem nD τ sig => g.1.1) h
  have h2 : i = i' := csem_inj (congrArg Prod.snd h)
  rw [h1, h2]

/-! ## The slots of the gather buffers -/

/-- The slot of the gathered sums at an offset, as a transfer names it. -/
abbrev oRow (off : Fin 4 → ℕ) (h : ∀ a, off a + S1x8x8x128.size a ≤ S8x8x8x128.size a) : Memref sig .tc .vmem S8x8x128 .f32 :=
  ((Memref.whole cc0_scratch3).slice (Rect.unit (s := S8x8x8x128) off S1x8x8x128.size h) (fun _ => rfl)).squeeze S8x8x128 squeezes_S1x8x8x128_S8x8x128
/-- The slot of the gathered maxima and sums of exponentials at an offset. -/
abbrev mRow (off : Fin 4 → ℕ) (h : ∀ a, off a + S1x2x8x8.size a ≤ S8x2x8x8.size a) : Memref sig .tc .vmem S2x8x8 .f32 :=
  ((Memref.whole cc0_scratch4).slice (Rect.unit (s := S8x2x8x8) off S1x2x8x8.size h) (fun _ => rfl)).squeeze S2x8x8 squeezes_S1x2x8x8_S2x8x8

/-- The contents of the two gather buffers. -/
abbrev CO (F : FTy → Type) : Type := (cc0_scratch3 : Ref sig .tc).ty.Contents (Elt F)
abbrev CM (F : FTy → Type) : Type := (cc0_scratch4 : Ref sig .tc).ty.Contents (Elt F)

def oSet (s : Fin 8) : Finset S8x8x8x128.Idx := Finset.univ.filter fun i => (i 0 : Nat) = s.val
def mSet (s : Fin 8) : Finset S8x2x8x8.Idx := Finset.univ.filter fun i => (i 0 : Nat) = s.val

theorem oRect_set (s : Fin 8) (off : Fin 4 → ℕ) (h) (e : off = ![s.val, 0, 0, 0]) :
    (Rect.unit (s := S8x8x8x128) off S1x8x8x128.size h).set = oSet s := by
  subst e
  ext i
  rw [Rect.mem_set_unit, oSet, Finset.mem_filter]
  constructor
  · intro hi
    refine ⟨Finset.mem_univ _, ?_⟩
    have h0 := hi 0
    have h1 : (![s.val, 0, 0, 0] : Fin 4 → ℕ) 0 = s.val := rfl
    have h2 : S1x8x8x128.size 0 = 1 := rfl
    rw [h1, h2] at h0
    omega
  · rintro ⟨-, hi⟩ a
    have hs : (i 0 : Nat) = s.val := hi
    match a with
    | ⟨0, _⟩ => exact ⟨hs.ge, by show (i 0 : Nat) < s.val + 1; omega⟩
    | ⟨1, _⟩ => exact ⟨Nat.zero_le _, by show (i 1 : Nat) < 0 + 8; have : (i 1 : Nat) < 8 := (i 1).isLt; omega⟩
    | ⟨2, _⟩ => exact ⟨Nat.zero_le _, by show (i 2 : Nat) < 0 + 8; have : (i 2 : Nat) < 8 := (i 2).isLt; omega⟩
    | ⟨3, _⟩ => exact ⟨Nat.zero_le _, by show (i 3 : Nat) < 0 + 128; have : (i 3 : Nat) < 128 := (i 3).isLt; omega⟩

theorem mRect_set (s : Fin 8) (off : Fin 4 → ℕ) (h) (e : off = ![s.val, 0, 0, 0]) :
    (Rect.unit (s := S8x2x8x8) off S1x2x8x8.size h).set = mSet s := by
  subst e
  ext i
  rw [Rect.mem_set_unit, mSet, Finset.mem_filter]
  constructor
  · intro hi
    refine ⟨Finset.mem_univ _, ?_⟩
    have h0 := hi 0
    have h1 : (![s.val, 0, 0, 0] : Fin 4 → ℕ) 0 = s.val := rfl
    have h2 : S1x2x8x8.size 0 = 1 := rfl
    rw [h1, h2] at h0
    omega
  · rintro ⟨-, hi⟩ a
    have hs : (i 0 : Nat) = s.val := hi
    match a with
    | ⟨0, _⟩ => exact ⟨hs.ge, by show (i 0 : Nat) < s.val + 1; omega⟩
    | ⟨1, _⟩ => exact ⟨Nat.zero_le _, by show (i 1 : Nat) < 0 + 2; have : (i 1 : Nat) < 2 := (i 1).isLt; omega⟩
    | ⟨2, _⟩ => exact ⟨Nat.zero_le _, by show (i 2 : Nat) < 0 + 8; have : (i 2 : Nat) < 8 := (i 2).isLt; omega⟩
    | ⟨3, _⟩ => exact ⟨Nat.zero_le _, by show (i 3 : Nat) < 0 + 8; have : (i 3 : Nat) < 8 := (i 3).isLt; omega⟩

theorem oRow_set (s : Fin 8) (off : Fin 4 → ℕ) (h) (e : off = ![s.val, 0, 0, 0]) : (oRow off h).view.set = oSet s := by
  exact (View.set_reshape _ _).trans ((View.set_slice_whole _ _).trans (oRect_set s off h e))
theorem mRow_set (s : Fin 8) (off : Fin 4 → ℕ) (h) (e : off = ![s.val, 0, 0, 0]) : (mRow off h).view.set = mSet s := by
  exact (View.set_reshape _ _).trans ((View.set_slice_whole _ _).trans (mRect_set s off h e))

/-- Device `c` holds the slot `s` of its gathered sums, at share `q`, with contents `f`. -/
def ptO (c : Dev nD) (s : Fin 8) (q : PosShare TreeShare) (f : CO F) : sProp 𝕄 :=
  (Memref.whole cc0_scratch3).view.loc (c : Thread nD τ) ↦[oSet s]{q} f
/-- The same for its gathered maxima and sums of exponentials. -/
def ptM (c : Dev nD) (s : Fin 8) (q : PosShare TreeShare) (f : CM F) : sProp 𝕄 :=
  (Memref.whole cc0_scratch4).view.loc (c : Thread nD τ) ↦[mSet s]{q} f

omit [FloatOps F] [Named F] in
instance ptO_storable (c s q f) : BI.Storable (upEmb : UEmb _ 𝕄) (ptO (F := F) c s q f) := by unfold ptO; infer_instance
omit [FloatOps F] [Named F] in
instance ptM_storable (c s q f) : BI.Storable (upEmb : UEmb _ 𝕄) (ptM (F := F) c s q f) := by unfold ptM; infer_instance

omit [FloatOps F] [Named F] in
/-- The whole of the gathered sums is its eight slots. -/
theorem ptO_split (c : Dev nD) (q : PosShare TreeShare) (f : CO F) :
    ((Memref.whole cc0_scratch3).view.loc (c : Thread nD τ) ↦{q} f : sProp 𝕄) = bigSep Finset.univ fun s : Fin 8 => ptO c s q f := by
  have hU : (Finset.univ : Finset S8x8x8x128.Idx) = (Finset.univ : Finset (Fin 8)).biUnion oSet := by
    ext i
    exact ⟨fun _ => Finset.mem_biUnion.mpr ⟨i 0, Finset.mem_univ _, Finset.mem_filter.mpr ⟨Finset.mem_univ _, rfl⟩⟩, fun _ => Finset.mem_univ _⟩
  have hD : ∀ s ∈ (Finset.univ : Finset (Fin 8)), ∀ s' ∈ (Finset.univ : Finset (Fin 8)), s ≠ s' → Disjoint (oSet s) (oSet s') := by
    intro s _ s' _ hne
    rw [Finset.disjoint_left]
    intro i hi hi'
    rw [oSet, Finset.mem_filter] at hi hi'
    exact hne (Fin.ext (hi.2.symm.trans hi'.2))
  show ((Memref.whole cc0_scratch3).view.loc (c : Thread nD τ) ↦[(Finset.univ : Finset S8x8x8x128.Idx)]{q} f : sProp 𝕄) = _
  rw [hU]
  exact pointsTo_biUnion _ _ hD
omit [FloatOps F] [Named F] in
/-- The whole of the gathered maxima and sums is its eight slots. -/
theorem ptM_split (c : Dev nD) (q : PosShare TreeShare) (f : CM F) :
    ((Memref.whole cc0_scratch4).view.loc (c : Thread nD τ) ↦{q} f : sProp 𝕄) = bigSep Finset.univ fun s : Fin 8 => ptM c s q f := by
  have hU : (Finset.univ : Finset S8x2x8x8.Idx) = (Finset.univ : Finset (Fin 8)).biUnion mSet := by
    ext i
    exact ⟨fun _ => Finset.mem_biUnion.mpr ⟨i 0, Finset.mem_univ _, Finset.mem_filter.mpr ⟨Finset.mem_univ _, rfl⟩⟩, fun _ => Finset.mem_univ _⟩
  have hD : ∀ s ∈ (Finset.univ : Finset (Fin 8)), ∀ s' ∈ (Finset.univ : Finset (Fin 8)), s ≠ s' → Disjoint (mSet s) (mSet s') := by
    intro s _ s' _ hne
    rw [Finset.disjoint_left]
    intro i hi hi'
    rw [mSet, Finset.mem_filter] at hi hi'
    exact hne (Fin.ext (hi.2.symm.trans hi'.2))
  show ((Memref.whole cc0_scratch4).view.loc (c : Thread nD τ) ↦[(Finset.univ : Finset S8x2x8x8.Idx)]{q} f : sProp 𝕄) = _
  rw [hU]
  exact pointsTo_biUnion _ _ hD

/-- The share of its own slot a device lends to the send at offset `o`. -/
def lendQ (o : Fin 8) : PosShare TreeShare := ShareLeaves.leaf 3 fullShare o

omit [FloatOps F] [Named F] in
theorem ptO_leaves (c : Dev nD) (s : Fin 8) (f : CO F) :
    (ptO c s fullShare f : sProp 𝕄) = bigSep Finset.univ fun o : Fin 8 => ptO c s (lendQ o) f := ShareLeaves.pointsTo_leaves _ _ 3 fullShare
omit [FloatOps F] [Named F] in
theorem ptM_leaves (c : Dev nD) (s : Fin 8) (f : CM F) :
    (ptM c s fullShare f : sProp 𝕄) = bigSep Finset.univ fun o : Fin 8 => ptM c s (lendQ o) f := ShareLeaves.pointsTo_leaves _ _ 3 fullShare

/-! ## The schedule -/

theorem oOff_inb (s : Fin 8) (a : Fin 4) : (![s.val, 0, 0, 0] : Fin 4 → ℕ) a + S1x8x8x128.size a ≤ S8x8x8x128.size a := by
  revert s a; decide
theorem mOff_inb (s : Fin 8) (a : Fin 4) : (![s.val, 0, 0, 0] : Fin 4 → ℕ) a + S1x2x8x8.size a ≤ S8x2x8x8.size a := by
  revert s a; decide

/-- The credits of one transfer: of a slot of the sums, and of a slot of the maxima and sums of exponentials. -/
def credN (k : Fin 2) : ℕ :=
  if k = 0 then (oRow ![(0 : Fin 8).val, 0, 0, 0] (oOff_inb 0)).view.dmaCredit else (mRow ![(0 : Fin 8).val, 0, 0, 0] (mOff_inb 0)).view.dmaCredit

theorem credN_pos (k : Fin 2) : 0 < credN k := by
  unfold credN
  split
  · exact View.dmaCredit_pos _ (by decide)
  · exact View.dmaCredit_pos _ (by decide)

variable (gO : CO F) (gM : CM F)

/-- What device `d`'s signal hands to device `c`: the slots `c` of `d`'s two gather buffers, to write. -/
def barPay (c d : Dev nD) : sProp 𝕄 := iprop((∃ f, ptO (F := F) d c fullShare f) ∗ (∃ f, ptM (F := F) d c fullShare f))
/-- What an arrival from device `s` hands to device `c`: the slot `s`, filled. -/
def recvPay (c : Dev nD) (s : Fin 8) (k : Fin 2) : sProp 𝕄 :=
  if k = 0 then ptO c s fullShare gO else ptM c s fullShare gM
/-- What a finished send hands back: the share of its own slot the device lent to it. -/
def sendPay (c : Dev nD) (o : Fin 8) (k : Fin 2) : sProp 𝕄 :=
  if k = 0 then ptO c c (lendQ o) gO else ptM c c (lendQ o) gM

def dutiesOf (c : Dev nD) : SemLoc sig → Finset (Fin 8)
  | .reg s => if s = barS then Finset.univ.erase c else ∅
  | .dma q => if 52 ≤ q.val then (Finset.univ.filter fun s => 52 + 2 * s.val ≤ q.val ∧ q.val < 54 + 2 * s.val ∧ s ≠ c)
      else if 38 ≤ q.val then {0} else ∅

def semK (q : DmaSem sig) : Fin 2 := ⟨q.val % 2, Nat.mod_lt _ (by decide)⟩
def semO (q : DmaSem sig) : Fin 8 := ⟨(q.val - 36) / 2 % 8, Nat.mod_lt _ (by decide)⟩

/-- One round. The barrier cell of `c` is paid one unit by every other device; the arrival cell of `s` by device `s`; a
    send's cell by its own device (a duty named `0`). -/
def Rd : Rounds.Schedule (GSem nD τ sig) (Fin 8) 𝕄 where
  duties g r := if r = 0 ∧ g.1.2 = .tc then dutiesOf g.1.1 g.2 else ∅
  unitless _ := False
  amount g _ _ := match g.2 with | .reg _ => 1 | .dma q => credN (semK q)
  payload g _ d := match g.2 with
    | .reg _ => barPay g.1.1 d
    | .dma q => if 52 ≤ q.val then recvPay gO gM g.1.1 d (semK q) else sendPay gO gM g.1.1 (semO q) (semK q)
  amount_pos g _ _ _ := by
    rcases g with ⟨_, _ | q⟩
    · exact Nat.one_pos
    · exact credN_pos _

instance Rd_payload_storable (g : GSem nD τ sig) (r : ℕ) (d : Fin 8) :
    BI.Storable (upEmb : UEmb _ 𝕄) ((Rd gO gM).payload g r d) := by
  rcases g with ⟨_, _ | q⟩
  · show BI.Storable _ (barPay _ d); unfold barPay; infer_instance
  · show BI.Storable _ (if 52 ≤ q.val then recvPay gO gM _ d (semK q) else sendPay gO gM _ (semO q) (semK q))
    unfold recvPay sendPay
    (repeat' split) <;> infer_instance

theorem semK_send (o k) : semK (sendS o k) = k := Fin.ext (by show (36 + (2 * o.val + k.val)) % 2 = k.val; omega)
theorem semO_send (o k) : semO (sendS o k) = o := Fin.ext (by show (36 + (2 * o.val + k.val) - 36) / 2 % 8 = o.val; omega)
theorem semK_recv (o k) : semK (recvS o k) = k := Fin.ext (by show (52 + (2 * o.val + k.val)) % 2 = k.val; omega)

section Tables
variable (c : Dev nD)

omit [FloatOps F] [Named F] in
theorem duties_bar : (Rd gO gM).duties (barCell c) 0 = Finset.univ.erase c := by
  show (if (0 : ℕ) = 0 ∧ (c : Thread nD τ).2 = .tc then dutiesOf c (.reg barS) else ∅) = _
  rw [if_pos ⟨rfl, rfl⟩]; show (if barS = barS then Finset.univ.erase c else ∅) = _; rw [if_pos rfl]
omit [FloatOps F] [Named F] in
theorem duties_send (o : Fin 8) (k : Fin 2) (ho : o ≠ 0) : (Rd gO gM).duties (sendCell c o k) 0 = {0} := by
  show (if (0 : ℕ) = 0 ∧ (c : Thread nD τ).2 = .tc then dutiesOf c (.dma (sendS o k)) else ∅) = _
  have h0 : o.val ≠ 0 := fun h => ho (Fin.ext h)
  rw [if_pos ⟨rfl, rfl⟩]
  show (if 52 ≤ 36 + (2 * o.val + k.val) then _ else if 38 ≤ 36 + (2 * o.val + k.val) then _ else _) = _
  rw [if_neg (by omega), if_pos (by omega)]
omit [FloatOps F] [Named F] in
theorem duties_send_zero (k : Fin 2) (r : ℕ) : (Rd gO gM).duties (sendCell c 0 k) r = ∅ := by
  show (if r = 0 ∧ (c : Thread nD τ).2 = .tc then dutiesOf c (.dma (sendS 0 k)) else ∅) = _
  split
  · show (if 52 ≤ 36 + (2 * 0 + k.val) then _ else if 38 ≤ 36 + (2 * 0 + k.val) then _ else _) = _
    rw [if_neg (by omega), if_neg (by omega)]
  · rfl
omit [FloatOps F] [Named F] in
theorem duties_recv_aux (s : Fin 8) (k : Fin 2) : dutiesOf c (.dma (recvS s k)) = if s = c then ∅ else {s} := by
  show (if 52 ≤ 52 + (2 * s.val + k.val) then _ else _) = _
  rw [if_pos (by omega)]
  ext x
  rw [Finset.mem_filter]
  show _ ∧ 52 + 2 * x.val ≤ 52 + (2 * s.val + k.val) ∧ 52 + (2 * s.val + k.val) < 54 + 2 * x.val ∧ x ≠ c ↔ _
  constructor
  · rintro ⟨-, h1, h2, h3⟩
    have hx : x = s := Fin.ext (by omega)
    subst hx
    rw [if_neg h3]; exact Finset.mem_singleton_self _
  · split
    · intro h; exact absurd h (Finset.notMem_empty _)
    · rename_i hs
      intro h
      rw [Finset.mem_singleton] at h
      subst h
      exact ⟨Finset.mem_univ _, by omega, by omega, hs⟩
omit [FloatOps F] [Named F] in
theorem duties_recv (s : Fin 8) (k : Fin 2) (hs : s ≠ c) : (Rd gO gM).duties (recvCell c s k) 0 = {s} := by
  show (if (0 : ℕ) = 0 ∧ (c : Thread nD τ).2 = .tc then dutiesOf c (.dma (recvS s k)) else ∅) = _
  rw [if_pos ⟨rfl, rfl⟩, duties_recv_aux, if_neg hs]
omit [FloatOps F] [Named F] in
theorem duties_recv_self (k : Fin 2) (r : ℕ) : (Rd gO gM).duties (recvCell c c k) r = ∅ := by
  show (if r = 0 ∧ (c : Thread nD τ).2 = .tc then dutiesOf c (.dma (recvS c k)) else ∅) = _
  split
  · rw [duties_recv_aux, if_pos rfl]
  · rfl
omit [FloatOps F] [Named F] in
theorem duties_later (g : GSem nD τ sig) : ∀ r, 1 ≤ r → (Rd gO gM).duties g r = ∅ :=
  fun r hr => by show (if r = 0 ∧ g.1.2 = .tc then _ else ∅) = _; rw [if_neg fun h => by omega]

omit [FloatOps F] [Named F] in
theorem amount_bar (r d) : (Rd gO gM).amount (barCell c) r d = 1 := rfl
omit [FloatOps F] [Named F] in
theorem amount_send (o k r d) : (Rd gO gM).amount (sendCell c o k) r d = credN k := by
  show credN (semK (sendS o k)) = _; rw [semK_send]
omit [FloatOps F] [Named F] in
theorem amount_recv (s k r d) : (Rd gO gM).amount (recvCell c s k) r d = credN k := by
  show credN (semK (recvS s k)) = _; rw [semK_recv]

omit [FloatOps F] [Named F] in
theorem expect_bar : (Rd gO gM).expect (barCell c) 0 = 7 := by
  unfold Schedule.expect Schedule.amountOf
  rw [duties_bar, Finset.sum_congr rfl fun d _ => amount_bar gO gM c 0 d, Finset.sum_const, Finset.card_erase_of_mem (Finset.mem_univ _), Finset.card_univ]
  rfl
omit [FloatOps F] [Named F] in
theorem expect_send (o k) (ho : o ≠ 0) : (Rd gO gM).expect (sendCell c o k) 0 = credN k := by
  unfold Schedule.expect Schedule.amountOf; rw [duties_send gO gM c o k ho, Finset.sum_singleton, amount_send]
omit [FloatOps F] [Named F] in
theorem expect_recv (s k) (hs : s ≠ c) : (Rd gO gM).expect (recvCell c s k) 0 = credN k := by
  unfold Schedule.expect Schedule.amountOf; rw [duties_recv gO gM c s k hs, Finset.sum_singleton, amount_recv]

omit [FloatOps F] [Named F] in
theorem payload_bar (d : Fin 8) : (Rd gO gM).payload (barCell c) 0 d = barPay c d := rfl
omit [FloatOps F] [Named F] in
theorem payload_send (o k d) : (Rd gO gM).payload (sendCell c o k) 0 d = sendPay gO gM c o k := by
  show (if 52 ≤ 36 + (2 * o.val + k.val) then _ else sendPay gO gM c (semO (sendS o k)) (semK (sendS o k))) = _
  rw [if_neg (by omega), semK_send, semO_send]
omit [FloatOps F] [Named F] in
theorem payload_recv (s k d) : (Rd gO gM).payload (recvCell c s k) 0 d = recvPay gO gM c d k := by
  show (if 52 ≤ 52 + (2 * s.val + k.val) then recvPay gO gM c d (semK (recvS s k)) else _) = _
  rw [if_pos (by omega), semK_recv]

omit [FloatOps F] [Named F] in
/-- What the barrier's wait brings: the slot `c` of every other device's gather buffers. -/
theorem rest_bar : bigSep ((Rd gO gM).duties (barCell c) 0 \ ∅) (fun d => (Rd gO gM).payload (barCell c) 0 d)
    = iprop(barPay (F := F) c (nb c 1) ∗ barPay (F := F) c (nb c 2) ∗ barPay (F := F) c (nb c 3) ∗ barPay (F := F) c (nb c 4)
        ∗ barPay (F := F) c (nb c 5) ∗ barPay (F := F) c (nb c 6) ∗ barPay (F := F) c (nb c 7)) := by
  rw [Finset.sdiff_empty, duties_bar]
  rw [bigSep_eq_bigSepL_of_eq (S := Finset.univ.erase c) (l := [nb c 1, nb c 2, nb c 3, nb c 4, nb c 5, nb c 6, nb c 7])
    (by revert c; decide) (by revert c; decide)]
  rfl
omit [FloatOps F] [Named F] in
theorem rest_send (o k) (ho : o ≠ 0) :
    bigSep ((Rd gO gM).duties (sendCell c o k) 0 \ ∅) (fun d => (Rd gO gM).payload (sendCell c o k) 0 d) = sendPay gO gM c o k := by
  rw [Finset.sdiff_empty, duties_send gO gM c o k ho, bigSep_singleton, payload_send]
omit [FloatOps F] [Named F] in
theorem rest_recv (s k) (hs : s ≠ c) :
    bigSep ((Rd gO gM).duties (recvCell c s k) 0 \ ∅) (fun d => (Rd gO gM).payload (recvCell c s k) 0 d) = recvPay gO gM c s k := by
  rw [Finset.sdiff_empty, duties_recv gO gM c s k hs, bigSep_singleton, payload_recv]

end Tables

/-! ## What each device owes, and the levels -/

/-- The sends in program order. -/
def sendList : List (Fin 8 × Fin 2) :=
  [(1, 0), (1, 1), (2, 0), (2, 1), (3, 0), (3, 1), (4, 0), (4, 1), (5, 0), (5, 1), (6, 0), (6, 1), (7, 0), (7, 1)]
/-- The signals in program order. -/
def sigList : List (Fin 8) := [1, 2, 3, 4, 5, 6, 7]

/-- What is owed to the arrival cells named by a list of sends. -/
def owedR (c : Dev nD) : List (Fin 8 × Fin 2) → CellTallies nD τ sig Bool
  | [] => 0
  | x :: l => owedR c l + tallyAt (recvCell (nb c x.1) c x.2) true (credN x.2)
/-- What is owed to the barrier cells named by a list of signals, and to all arrival cells. -/
def owedB (c : Dev nD) : List (Fin 8) → CellTallies nD τ sig Bool
  | [] => owedR c sendList
  | o :: l => owedB c l + tallyAt (barCell (nb c o)) true 1
def O₀ (c : Dev nD) : CellTallies nD τ sig Bool := owedB c sigList

theorem owedR_apply (c : Dev nD) (l : List (Fin 8 × Fin 2)) (g : GSem nD τ sig) (i : Bool) :
    owedR c l g i = (l.map fun x => if g = recvCell (nb c x.1) c x.2 ∧ i = true then credN x.2 else 0).sum := by
  induction l with
  | nil => rfl
  | cons x l ih =>
    rw [owedR, Pi.add_apply, Finsupp.add_apply, ih, tallyAt_apply, List.map_cons, List.sum_cons, Nat.add_comm]
theorem owedB_apply (c : Dev nD) (l : List (Fin 8)) (g : GSem nD τ sig) (i : Bool) :
    owedB c l g i = (l.map fun o => if g = barCell (nb c o) ∧ i = true then 1 else 0).sum + owedR c sendList g i := by
  induction l with
  | nil => rw [owedB, List.map_nil, List.sum_nil, Nat.zero_add]
  | cons x l ih =>
    rw [owedB, Pi.add_apply, Finsupp.add_apply, ih, tallyAt_apply, List.map_cons, List.sum_cons]; omega

/-- An arrival cell of a peer. -/
def IsRecv (g : GSem nD τ sig) : Prop := ∃ (c' : Dev nD) (s : Fin 8) (k : Fin 2), g = recvCell c' s k
def IsBar (g : GSem nD τ sig) : Prop := ∃ c' : Dev nD, g = barCell c'

theorem owedR_pos {c : Dev nD} {l} {g : GSem nD τ sig} {i : Bool} (h : 0 < owedR c l g i) : IsRecv g ∧ i = true := by
  induction l with
  | nil => exact absurd h (Nat.lt_irrefl 0)
  | cons x l ih =>
    rw [owedR, Pi.add_apply, Finsupp.add_apply, tallyAt_apply] at h
    by_cases hx : g = recvCell (nb c x.1) c x.2 ∧ i = true
    · exact ⟨⟨_, _, _, hx.1⟩, hx.2⟩
    · rw [if_neg hx] at h; exact ih h
theorem owedB_pos {c : Dev nD} {l} {g : GSem nD τ sig} {i : Bool} (h : 0 < owedB c l g i) : (IsRecv g ∨ IsBar g) ∧ i = true := by
  induction l with
  | nil => exact ⟨.inl (owedR_pos h).1, (owedR_pos h).2⟩
  | cons x l ih =>
    rw [owedB, Pi.add_apply, Finsupp.add_apply, tallyAt_apply] at h
    by_cases hx : g = barCell (nb c x) ∧ i = true
    · exact ⟨.inr ⟨_, hx.1⟩, hx.2⟩
    · rw [if_neg hx] at h; exact ih h

def L (g : GSem nD τ sig) : Finset Bool := if g.1.2 = .tc then Finset.univ else ∅
/-- A device's own copies are at level 0, its barrier at 1, the arrivals at 2. -/
def lv (g : GSem nD τ sig) (i : Bool) : ℕ :=
  if i = true then (match g.2 with | .reg _ => 1 | .dma q => if 52 ≤ q.val then 2 else 0) else 0

theorem L_of_ne (g : GSem nD τ sig) (h : g.1.2 ≠ .tc) : L g = ∅ := if_neg h
theorem L_tc (c : Dev nD) (sm : SemLoc sig) : L ((c : Thread nD τ), sm) = Finset.univ := if_pos rfl

theorem mem_L_recv {g : GSem nD τ sig} (h : IsRecv g) (i : Bool) : i ∈ L g := by
  obtain ⟨_, _, _, rfl⟩ := h; rw [L_tc]; exact Finset.mem_univ _
theorem mem_L_bar {g : GSem nD τ sig} (h : IsBar g) (i : Bool) : i ∈ L g := by
  obtain ⟨_, rfl⟩ := h; rw [L_tc]; exact Finset.mem_univ _
theorem lv_recv {g : GSem nD τ sig} (h : IsRecv g) : lv g true = 2 := by
  obtain ⟨_, s, k, rfl⟩ := h
  show (if true = true then (if 52 ≤ 52 + (2 * s.val + k.val) then 2 else 0) else 0) = 2
  rw [if_pos rfl, if_pos (by omega)]
theorem lv_bar {g : GSem nD τ sig} (h : IsBar g) : lv g true = 1 := by obtain ⟨_, rfl⟩ := h; rfl

omit [FloatOps F] [Named F] in
/-- A wait on one of its own transfers is below everything a device may owe. -/
theorem mayWait_own (c : Dev nD) (sm : SemLoc sig) (l) : (levAts L lv : sProp 𝕄) ⊢ MayWait (c : Thread nD τ) sm false (owedB c l) :=
  MayOwe.of_cut (L := L) (lev := lv) 0 (fun p hp => by rw [Finset.mem_singleton.mp hp, L_tc]; exact Finset.mem_univ _)
    (fun g u hg => by rcases (owedB_pos hg).1 with h | h; exacts [mem_L_recv h u, mem_L_bar h u])
    (fun p hp => by rw [Finset.mem_singleton.mp hp]; exact Nat.le_refl 0)
    (fun g u hg => by
      obtain ⟨h, rfl⟩ := owedB_pos hg
      rcases h with h | h
      · rw [lv_recv h]; decide
      · rw [lv_bar h]; decide)
omit [FloatOps F] [Named F] in
/-- At its barrier wait a device owes its peers' arrival cells only. -/
theorem mayWait_bar (c : Dev nD) (l) : (levAts L lv : sProp 𝕄) ⊢ MayWait (c : Thread nD τ) (.reg barS) true (owedR c l) :=
  MayOwe.of_cut (L := L) (lev := lv) 1 (fun p hp => by rw [Finset.mem_singleton.mp hp, L_tc]; exact Finset.mem_univ _)
    (fun g u hg => mem_L_recv (owedR_pos hg).1 u)
    (fun p hp => by rw [Finset.mem_singleton.mp hp]; exact Nat.le_refl 1)
    (fun g u hg => by obtain ⟨h, rfl⟩ := owedR_pos hg; rw [lv_recv h]; decide)

/-! ## The records every device shares, and one device's own marks -/

/-- Every cell's invariant, at the names `K` the launch gave them, and that its round 0 is reached. -/
def records (K : Dev nD × KC → ℕ) : sProp 𝕄 :=
  iprop((bigSep Finset.univ fun p : Dev nD × KC => cellInv ER (Rd gO gM) (K p) (kcell p))
    ∗ bigSep Finset.univ fun p : Dev nD × KC => reached ER (kcell p) 0)

instance records_persistent (K : Dev nD × KC → ℕ) : BI.Persistent (records gO gM K) := by unfold records; infer_instance

theorem inv_at (K : Dev nD × KC → ℕ) (p : Dev nD × KC) :
    records gO gM K ⊢ iprop(cellInv ER (Rd gO gM) (K p) (kcell p) ∗ reached ER (kcell p) 0) := by
  unfold records
  exact Laws.sep_mono (bigSep_elim (Finset.mem_univ p)) (bigSep_elim (Finset.mem_univ p))

/-- The tokens with which device `c` pays at offset `o`: its signal, its two arrivals at the peer, its two sends. -/
def toks (c : Dev nD) (o : Fin 8) : sProp 𝕄 :=
  iprop(dutyTok ER (barCell (nb c o)) 0 c ∗ (dutyTok ER (recvCell (nb c o) c 0) 0 c ∗ dutyTok ER (recvCell (nb c o) c 1) 0 c)
    ∗ dutyTok ER (sendCell c o 0) 0 0 ∗ dutyTok ER (sendCell c o 1) 0 0)

end Cert.Paged

end
-- ==== Proof.Steps.lean ====
module

public import proofs.«01_k».proof.Proof.Protocol

@[expose] public section

noncomputable section

/-!
# The steps of the exchange

One rule for each kind of step a device takes in the exchange: a signal, the barrier's wait, a send of either slot, the
wait for an arrival, the wait for one's own send. Each is stated at the device, semaphore and slot the program computes,
with an equation saying which of the schedule's it is.
-/

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MM F

variable (gO : CO F) (gM : CM F) (K : Dev nD × KC → ℕ)

/-- The two gather slots device `c` hands to the device at offset `o`. -/
def lent (c : Dev nD) (o : Fin 8) : sProp 𝕄 :=
  barPay (F := F) (nb c o) c

/-- A signal to the device at offset `o`, handing it its slots. -/
theorem wp_sig (c n : Dev nD) (o : Fin 8) (ho : o ≠ 0) (hn : n = nb c o) (l : List (Fin 8))
    {α : Type} {Q : α → sProp 𝕄} {k : PUnit → Prog (TpuEff nD τ sig (Elt F) Λ₀ .tc) α} (W : Waits sig Bool) {N : ℕ} (hN : N = 1) :
    iprop(records gO gM K ∗ owes (c : Thread nD τ) (owedB c (o :: l)) W ∗ dutyTok ER (barCell (nb c o)) 0 c ∗ lent c o)
      ⊢ iprop((owes (c : Thread nD τ) (owedB c l) W -∗ wp frame (wpE (defs₀ (F := F)) Variants.none (c : Thread nD τ) none) Set.univ (k ⟨⟩) Q)
          -∗ wp frame (wpE (defs₀ (F := F)) Variants.none (c : Thread nD τ) none) Set.univ (.op (.semSignal (n : Thread nD τ) barS N) k) Q) := by
  subst hn
  subst hN
  unfold lent
  iintro ⟨#HR, HO, Ht, Hl⟩
  ihave ⟨HI, Hr⟩ := (inv_at gO gM K (nb c o, .inl ())) $$ HR
  iapply (Rounds.wp_signal Variants.none ER (Rd gO gM) (c : Thread nD τ) none (dst := (nb c o : Thread nD τ)) (κ := K (nb c o, .inl ()))
      (d := c) (by rw [duties_bar]; exact Finset.mem_erase.mpr ⟨(nb_ne c o ho).symm, Finset.mem_univ _⟩) (amount_bar gO gM (nb c o) 0 c) true (owedB c l) rfl)
  isplitl [HI]; · iexact HI
  isplitl [HO]; · iexact HO
  isplitl [Ht]; · iexact Ht
  isplitl [Hl]; · iapply (Entails.of_eq (payload_bar gO gM (nb c o) c).symm); iexact Hl
  iexact Hr

/-- The wait on the barrier for the seven other devices: their slots come with it, and the barrier is done with. -/
theorem wp_barwait (c : Dev nD) {α : Type} {Q : α → sProp 𝕄} {k : PUnit → Prog (TpuEff nD τ sig (Elt F) Λ₀ .tc) α} (W : Waits sig Bool)
    {N : ℕ} (hN : N = 7) :
    iprop(records gO gM K ∗ levAts L lv ∗ cred (tallyAt (barCell c) true 7) ∗ owes (c : Thread nD τ) (owedR c sendList) W ∗ atPos ER (barCell c) 0 ∅ 0)
      ⊢ iprop(((owes (c : Thread nD τ) (owedR c sendList) (insert (SemLoc.reg barS, true) W)
            ∗ (barPay (F := F) c (nb c 1) ∗ barPay (F := F) c (nb c 2) ∗ barPay (F := F) c (nb c 3) ∗ barPay (F := F) c (nb c 4)
        ∗ barPay (F := F) c (nb c 5) ∗ barPay (F := F) c (nb c 6) ∗ barPay (F := F) c (nb c 7)) ∗ semVal (barCell c) 0) -∗ wp frame (wpE (defs₀ (F := F)) Variants.none (c : Thread nD τ) none) Set.univ (k ⟨⟩) Q)
          -∗ wp frame (wpE (defs₀ (F := F)) Variants.none (c : Thread nD τ) none) Set.univ (.op (.semWait barS N) k) Q) := by
  subst hN
  iintro ⟨#HR, #Hlev, Hc, HO, Hat⟩ Hk
  ihave ⟨#HI, -⟩ := (inv_at gO gM K (c, .inl ())) $$ HR
  iapply (Rounds.wp_wait_rest_token Variants.none ER (Rd gO gM) (c : Thread nD τ) none (κ := K (c, .inl ()))
      (wpE_semWait_eq Variants.none (c : Thread nD τ) none Set.univ) (Set.mem_univ _) true (O := owedR c sendList) (W := W) (R := 0) (m := 0) (T := ∅)
      (by rw [expect_bar])) $$ [Hc HO Hat]
  · isplitr; · iexact HI
    isplitl [Hc]; · iexact Hc
    isplitl [HO]; · iexact HO
    isplitr; · iapply (mayWait_bar c sendList); iexact Hlev
    iexact Hat
  iintro ⟨HO, Hat, -, Hp⟩
  imod (Rounds.cell_close ER (Rd gO gM) (Set.mem_univ (K (c, .inl ()))) (fun h => h) (R := 0 + 1) (duties_later gO gM (barCell c))) $$ [Hat] with Hv
  · isplitr; · iexact HI
    iexact Hat
  iapply Hk
  isplitl [HO]; · iexact HO
  isplitl [Hp]; · iapply (Entails.of_eq (rest_bar gO gM c)); iexact Hp
  iexact Hv

omit [FloatOps F] [Named F] in
/-- A slot copied onto the same slot of another buffer of its type: the slot's contents. -/
theorem same_write {b : Ref sig .tc} {sp : Space} {s : Shape} {e : EltTy} (v : View sig .tc sp s e) (fd fs : v.ty.Contents (Elt F)) (i) (hi : i ∈ v.set) :
    v.write (Elt F) fd (v.read (Elt F) fs) Finset.univ i = fs i := by
  rw [View.write_read_eq_piecewise]
  exact Finset.piecewise_eq_of_mem _ _ _ hi

theorem oRow_credit (off : Fin 4 → ℕ) (h) : (oRow off h).view.dmaCredit = credN 0 := by
  unfold credN; rw [if_pos rfl]
theorem mRow_credit (off : Fin 4 → ℕ) (h) : (mRow off h).view.dmaCredit = credN 1 := by
  unfold credN; rw [if_neg (by decide)]

/-- The send of its own slot of sums to the device at offset `o`. -/
theorem wp_sendO (c n : Dev nD) (o : Fin 8) (ho : o ≠ 0) (hn : n = nb c o) (l : List (Fin 8 × Fin 2)) {off : Fin 4 → ℕ} {h}
    (hoff : off = ![c.val, 0, 0, 0]) {sS sR : DmaSem sig} (hS : sS = sendS o 0) (hR : sR = recvS c 0)
    {hsc : (oRow off h : Memref sig (Dev.tc n : Thread nD τ).2.kind .vmem S8x8x128 .f32).view.ref.isScScratch = false}
    {hsrc : (oRow off h).view.WordExact} {hdst : (oRow off h).view.WordExact}
    {hsem : DmaTarget.Typed .vmem (.dma sR) (.remote (Dev.tc n : Thread nD τ) (oRow off h : Memref sig .tc .vmem S8x8x128 .f32) (.dma sS) hsc)}
    {α : Type} {Q : α → sProp 𝕄} {k : PUnit → Prog (TpuEff nD τ sig (Elt F) Λ₀ .tc) α} (W : Waits sig Bool) :
    iprop(records gO gM K ∗ owes (c : Thread nD τ) (owedR c ((o, 0) :: l)) W ∗ ptO c c (lendQ o) gO ∗ (∃ f, ptO (F := F) (nb c o) c fullShare f)
        ∗ dutyTok ER (sendCell c o 0) 0 0 ∗ dutyTok ER (recvCell (nb c o) c 0) 0 c)
      ⊢ iprop(((cred (tallyAt (sendCell c o 0) true (credN 0)) ∗ owes (c : Thread nD τ) (owedR c l) W) -∗ wp frame (wpE (defs₀ (F := F)) Variants.none (c : Thread nD τ) none) Set.univ (k ⟨⟩) Q)
          -∗ wp frame (wpE (defs₀ (F := F)) Variants.none (c : Thread nD τ) none) Set.univ (.op (.enqueueDma (oRow off h) (.remote (Dev.tc n : Thread nD τ) (oRow off h) (.dma sS) hsc) (.dma sR) hsrc hdst hsem) k) Q) := by
  subst hn; subst hS; subst hR
  unfold ptO
  iintro ⟨#HR, HO, Hs, ⟨%fd, Hd⟩, Ht1, Ht2⟩
  ihave ⟨HI1, Hr1⟩ := (inv_at gO gM K (c, .inr (.inl (o, 0)))) $$ HR
  ihave ⟨HI2, Hr2⟩ := (inv_at gO gM K (nb c o, .inr (.inr (c, 0)))) $$ HR
  have hset : (oRow off h).view.set = oSet c := oRow_set c off h hoff
  iapply (Rounds.wp_send_pointsTo Variants.none ER (Rd gO gM) (c : Thread nD τ) none (κ₁ := K (c, .inr (.inl (o, 0)))) (κ₂ := K (nb c o, .inr (.inr (c, 0))))
    (c' := (nb c o : Thread nD τ)) (src := oRow off h) (dst := oRow off h) (sS := .dma (sendS o 0)) (sem := .dma (recvS c 0))
    (r₁ := 0) (r₂ := 0) (d₁ := 0) (d₂ := c) (q := lendQ o) (fs := gO) (fd := fd)
    (by rw [duties_send gO gM c o 0 ho]; exact Finset.mem_singleton_self _)
    (by rw [duties_recv gO gM (nb c o) c 0 (nb_ne c o ho).symm]; exact Finset.mem_singleton_self _)
    true true (credN 0) (oRow_credit off h) (amount_send gO gM c o 0 0 0) (amount_recv gO gM (nb c o) c 0 0 c) (owedR c l) rfl (W := W)
    (by rw [payload_send]; unfold sendPay ptO; rw [if_pos rfl, hset])
    (by
      rw [payload_recv]; unfold recvPay ptO; rw [if_pos rfl, hset]
      exact Entails.of_eq (pointsTo_congr fun i hi => same_write (b := cc0_scratch3) (oRow off h).view fd gO i (by rw [hset]; exact hi))))
  isplitl [HI1]; · iexact HI1
  isplitl [HI2]; · iexact HI2
  isplitl [Hs]; · rw [hset]; iexact Hs
  isplitl [Hd]; · rw [hset]; iexact Hd
  isplitl [HO]; · iexact HO
  isplitl [Ht1]; · iexact Ht1
  isplitl [Hr1]; · iexact Hr1
  isplitl [Ht2]; · iexact Ht2
  iexact Hr2

/-- The send of its own slot of maxima and sums to the device at offset `o`. -/
theorem wp_sendM (c n : Dev nD) (o : Fin 8) (ho : o ≠ 0) (hn : n = nb c o) (l : List (Fin 8 × Fin 2)) {off : Fin 4 → ℕ} {h}
    (hoff : off = ![c.val, 0, 0, 0]) {sS sR : DmaSem sig} (hS : sS = sendS o 1) (hR : sR = recvS c 1)
    {hsc : (mRow off h : Memref sig (Dev.tc n : Thread nD τ).2.kind .vmem S2x8x8 .f32).view.ref.isScScratch = false}
    {hsrc : (mRow off h).view.WordExact} {hdst : (mRow off h).view.WordExact}
    {hsem : DmaTarget.Typed .vmem (.dma sR) (.remote (Dev.tc n : Thread nD τ) (mRow off h : Memref sig .tc .vmem S2x8x8 .f32) (.dma sS) hsc)}
    {α : Type} {Q : α → sProp 𝕄} {k : PUnit → Prog (TpuEff nD τ sig (Elt F) Λ₀ .tc) α} (W : Waits sig Bool) :
    iprop(records gO gM K ∗ owes (c : Thread nD τ) (owedR c ((o, 1) :: l)) W ∗ ptM c c (lendQ o) gM ∗ (∃ f, ptM (F := F) (nb c o) c fullShare f)
        ∗ dutyTok ER (sendCell c o 1) 0 0 ∗ dutyTok ER (recvCell (nb c o) c 1) 0 c)
      ⊢ iprop(((cred (tallyAt (sendCell c o 1) true (credN 1)) ∗ owes (c : Thread nD τ) (owedR c l) W) -∗ wp frame (wpE (defs₀ (F := F)) Variants.none (c : Thread nD τ) none) Set.univ (k ⟨⟩) Q)
          -∗ wp frame (wpE (defs₀ (F := F)) Variants.none (c : Thread nD τ) none) Set.univ (.op (.enqueueDma (mRow off h) (.remote (Dev.tc n : Thread nD τ) (mRow off h) (.dma sS) hsc) (.dma sR) hsrc hdst hsem) k) Q) := by
  subst hn; subst hS; subst hR
  unfold ptM
  iintro ⟨#HR, HO, Hs, ⟨%fd, Hd⟩, Ht1, Ht2⟩
  ihave ⟨HI1, Hr1⟩ := (inv_at gO gM K (c, .inr (.inl (o, 1)))) $$ HR
  ihave ⟨HI2, Hr2⟩ := (inv_at gO gM K (nb c o, .inr (.inr (c, 1)))) $$ HR
  have hset : (mRow off h).view.set = mSet c := mRow_set c off h hoff
  iapply (Rounds.wp_send_pointsTo Variants.none ER (Rd gO gM) (c : Thread nD τ) none (κ₁ := K (c, .inr (.inl (o, 1)))) (κ₂ := K (nb c o, .inr (.inr (c, 1))))
    (c' := (nb c o : Thread nD τ)) (src := mRow off h) (dst := mRow off h) (sS := .dma (sendS o 1)) (sem := .dma (recvS c 1))
    (r₁ := 0) (r₂ := 0) (d₁ := 0) (d₂ := c) (q := lendQ o) (fs := gM) (fd := fd)
    (by rw [duties_send gO gM c o 1 ho]; exact Finset.mem_singleton_self _)
    (by rw [duties_recv gO gM (nb c o) c 1 (nb_ne c o ho).symm]; exact Finset.mem_singleton_self _)
    true true (credN 1) (mRow_credit off h) (amount_send gO gM c o 1 0 0) (amount_recv gO gM (nb c o) c 1 0 c) (owedR c l) rfl (W := W)
    (by rw [payload_send]; unfold sendPay ptM; rw [if_neg (by decide), hset])
    (by
      rw [payload_recv]; unfold recvPay ptM; rw [if_neg (by decide), hset]
      exact Entails.of_eq (pointsTo_congr fun i hi => same_write (b := cc0_scratch4) (mRow off h).view fd gM i (by rw [hset]; exact hi))))
  isplitl [HI1]; · iexact HI1
  isplitl [HI2]; · iexact HI2
  isplitl [Hs]; · rw [hset]; iexact Hs
  isplitl [Hd]; · rw [hset]; iexact Hd
  isplitl [HO]; · iexact HO
  isplitl [Ht1]; · iexact Ht1
  isplitl [Hr1]; · iexact Hr1
  isplitl [Ht2]; · iexact Ht2
  iexact Hr2

/-- The wait for the arrival from device `s`, owing nothing any more: the filled slot, and the arrival's semaphore at rest. -/
theorem wp_recvwait (c : Dev nD) (s : Fin 8) (kk : Fin 2) (hs : s ≠ c) {sR : DmaSem sig} (hR : sR = recvS s kk)
    {sp sp' : Space} {s1 s2 : Shape} {e1 e2 : EltTy} {src : Memref sig (c : Thread nD τ).2.kind sp' s2 e2} {dst : Memref sig .tc sp s1 e1}
    {hsrc : src.view.WordExact} {hdst : dst.view.WordExact} (hN : dst.view.dmaCredit = credN kk)
    {α : Type} {Q : α → sProp 𝕄} {k : PUnit → Prog (TpuEff nD τ sig (Elt F) Λ₀ .tc) α} (W : Waits sig Bool) :
    iprop(records gO gM K ∗ cred (tallyAt (recvCell c s kk) true (credN kk)) ∗ owes (c : Thread nD τ) 0 W ∗ atPos ER (recvCell c s kk) 0 ∅ 0)
      ⊢ iprop(((owes (c : Thread nD τ) 0 (insert (SemLoc.dma (recvS s kk), true) W) ∗ recvPay gO gM c s kk ∗ semVal (recvCell c s kk) 0) -∗ wp frame (wpE (defs₀ (F := F)) Variants.none (c : Thread nD τ) none) Set.univ (k ⟨⟩) Q)
          -∗ wp frame (wpE (defs₀ (F := F)) Variants.none (c : Thread nD τ) none) Set.univ (.op (.waitDma2 sR src dst hsrc hdst) k) Q) := by
  subst hR
  iintro ⟨#HR, Hc, HO, Hat⟩ Hk
  ihave ⟨#HI, -⟩ := (inv_at gO gM K (c, .inr (.inr (s, kk)))) $$ HR
  iapply (Rounds.wp_wait_rest_token Variants.none ER (Rd gO gM) (c : Thread nD τ) none (κ := K (c, .inr (.inr (s, kk))))
      (wpE_waitDma2_eq Variants.none (c : Thread nD τ) none Set.univ) (Set.mem_univ _) true (O := 0) (W := W) (R := 0) (m := 0) (T := ∅)
      (by rw [Nat.zero_add, hN]; exact (expect_recv gO gM c s kk hs).symm)) $$ [Hc HO Hat]
  · isplitr; · iexact HI
    isplitl [Hc]; · rw [hN]; iexact Hc
    isplitl [HO]; · iexact HO
    isplitr; · rw [MayWait_zero]; iempintro
    iexact Hat
  iintro ⟨HO, Hat, -, Hp⟩
  imod (Rounds.cell_close ER (Rd gO gM) (Set.mem_univ (K (c, .inr (.inr (s, kk))))) (fun h => h) (R := 0 + 1) (duties_later gO gM (recvCell c s kk))) $$ [Hat] with Hv
  · isplitr; · iexact HI
    iexact Hat
  iapply Hk
  isplitl [HO]; · iexact HO
  isplitl [Hp]; · iapply (Entails.of_eq (rest_recv gO gM c s kk hs)); iexact Hp
  iexact Hv

/-- The wait for its own send at offset `o`: the share lent to it, and the send's semaphore at rest. -/
theorem wp_sendwait (c : Dev nD) (o : Fin 8) (kk : Fin 2) (ho : o ≠ 0) {sS : DmaSem sig} (hS : sS = sendS o kk)
    {sp sp' : Space} {s1 s2 : Shape} {e1 e2 : EltTy} {src : Memref sig (c : Thread nD τ).2.kind sp' s2 e2} {dst : Memref sig .tc sp s1 e1}
    {hsrc : src.view.WordExact} {hdst : dst.view.WordExact} (hN : dst.view.dmaCredit = credN kk)
    {α : Type} {Q : α → sProp 𝕄} {k : PUnit → Prog (TpuEff nD τ sig (Elt F) Λ₀ .tc) α} (W : Waits sig Bool) :
    iprop(records gO gM K ∗ cred (tallyAt (sendCell c o kk) true (credN kk)) ∗ owes (c : Thread nD τ) 0 W ∗ atPos ER (sendCell c o kk) 0 ∅ 0)
      ⊢ iprop(((owes (c : Thread nD τ) 0 (insert (SemLoc.dma (sendS o kk), true) W) ∗ sendPay gO gM c o kk ∗ semVal (sendCell c o kk) 0) -∗ wp frame (wpE (defs₀ (F := F)) Variants.none (c : Thread nD τ) none) Set.univ (k ⟨⟩) Q)
          -∗ wp frame (wpE (defs₀ (F := F)) Variants.none (c : Thread nD τ) none) Set.univ (.op (.waitDma2 sS src dst hsrc hdst) k) Q) := by
  subst hS
  iintro ⟨#HR, Hc, HO, Hat⟩ Hk
  ihave ⟨#HI, -⟩ := (inv_at gO gM K (c, .inr (.inl (o, kk)))) $$ HR
  iapply (Rounds.wp_wait_rest_token Variants.none ER (Rd gO gM) (c : Thread nD τ) none (κ := K (c, .inr (.inl (o, kk))))
      (wpE_waitDma2_eq Variants.none (c : Thread nD τ) none Set.univ) (Set.mem_univ _) true (O := 0) (W := W) (R := 0) (m := 0) (T := ∅)
      (by rw [Nat.zero_add, hN]; exact (expect_send gO gM c o kk ho).symm)) $$ [Hc HO Hat]
  · isplitr; · iexact HI
    isplitl [Hc]; · rw [hN]; iexact Hc
    isplitl [HO]; · iexact HO
    isplitr; · rw [MayWait_zero]; iempintro
    iexact Hat
  iintro ⟨HO, Hat, -, Hp⟩
  imod (Rounds.cell_close ER (Rd gO gM) (Set.mem_univ (K (c, .inr (.inl (o, kk))))) (fun h => h) (R := 0 + 1) (duties_later gO gM (sendCell c o kk))) $$ [Hat] with Hv
  · isplitr; · iexact HI
    iexact Hat
  iapply Hk
  isplitl [HO]; · iexact HO
  isplitl [Hp]; · iapply (Entails.of_eq (rest_send gO gM c o kk ho)); iexact Hp
  iexact Hv

end Cert.Paged

end
-- ==== Proof.Tail.lean ====
module

public import proofs.«01_k».proof.Proof.Steps

@[expose] public section

noncomputable section

/-!
# The exchange, from the two stores to the result

What a device does once its own partial result is computed: it stores it in its own slots, sends them to the seven
others, waits for theirs and for its own sends, and combines the eight slots. The contents `gO` and `gM` of the gather
buffers are the same on every device when the waits are done.
-/

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MM F

/-! ## Semaphores and slots as the program names them -/

theorem rOff_inb (s : Fin 8) (k : Fin 2) (a : Fin 2) : (![s.val, k.val] : Fin 2 → ℕ) a + S1x1.size a ≤ S8x2.size a := by
  revert s k a; decide
theorem recvSem (s : Fin 8) (k : Fin 2) (off : Fin 2 → ℕ) (h) (e : off = ![s.val, k.val]) :
    ((cc0_scratch6.slice (Rect.unit (s := S8x2) off S1x1.size h)).squeeze S_ squeezes_S1x1_S_).sem = recvS s k := by
  subst e
  have H : ∀ s k, ((cc0_scratch6.slice (Rect.unit (s := S8x2) _ S1x1.size (rOff_inb s k))).squeeze S_ squeezes_S1x1_S_).sem = recvS s k := by decide
  exact H s k
theorem sendSem (s : Fin 8) (k : Fin 2) (off : Fin 2 → ℕ) (h) (e : off = ![s.val, k.val]) :
    ((cc0_scratch5.slice (Rect.unit (s := S8x2) off S1x1.size h)).squeeze S_ squeezes_S1x1_S_).sem = sendS s k := by
  subst e
  have H : ∀ s k, ((cc0_scratch5.slice (Rect.unit (s := S8x2) _ S1x1.size (rOff_inb s k))).squeeze S_ squeezes_S1x1_S_).sem = sendS s k := by decide
  exact H s k

/-! ## What one offset brings and leaves -/

variable (gO : CO F) (gM : CM F) (K : Dev nD × KC → ℕ)

/-- The tokens of the two sends at offset `o`. -/
def payTok (c : Dev nD) (o : Fin 8) : sProp 𝕄 :=
  iprop((dutyTok ER (recvCell (nb c o) c 0) 0 c ∗ dutyTok ER (recvCell (nb c o) c 1) 0 c)
    ∗ dutyTok ER (sendCell c o 0) 0 0 ∗ dutyTok ER (sendCell c o 1) 0 0)
/-- The shares of its own two slots a device lends to the sends at offset `o`. -/
def ownSh (c : Dev nD) (o : Fin 8) : sProp 𝕄 := iprop(ptO c c (lendQ o) gO ∗ ptM c c (lendQ o) gM)
/-- The credits of the two sends at offset `o`. -/
def sendCr (c : Dev nD) (o : Fin 8) : sProp 𝕄 :=
  iprop(cred (tallyAt (sendCell c o 0) true (credN 0)) ∗ cred (tallyAt (sendCell c o 1) true (credN 1)))
/-- The credits of the two arrivals from the device at offset `o`. -/
def recvCr (c : Dev nD) (o : Fin 8) : sProp 𝕄 :=
  iprop(cred (tallyAt (recvCell c (nb c o) 0) true (credN 0)) ∗ cred (tallyAt (recvCell c (nb c o) 1) true (credN 1)))
def recvPos (c : Dev nD) (o : Fin 8) : sProp 𝕄 :=
  iprop(atPos ER (recvCell c (nb c o) 0) 0 ∅ 0 ∗ atPos ER (recvCell c (nb c o) 1) 0 ∅ 0)
def sendPos (c : Dev nD) (o : Fin 8) : sProp 𝕄 :=
  iprop(atPos ER (sendCell c o 0) 0 ∅ 0 ∗ atPos ER (sendCell c o 1) 0 ∅ 0)
/-- The slots of the device at offset `o`, filled. -/
def gotSl (c : Dev nD) (o : Fin 8) : sProp 𝕄 := iprop(ptO c (nb c o) fullShare gO ∗ ptM c (nb c o) fullShare gM)
def recvZ (c : Dev nD) (o : Fin 8) : sProp 𝕄 :=
  iprop(semVal (recvCell c (nb c o) 0) 0 ∗ semVal (recvCell c (nb c o) 1) 0)
def sendZ (c : Dev nD) (o : Fin 8) : sProp 𝕄 :=
  iprop(semVal (sendCell c o 0) 0 ∗ semVal (sendCell c o 1) 0)

omit [FloatOps F] [Named F] in
theorem recvPay_zero (c : Dev nD) (s : Fin 8) : recvPay gO gM c s 0 = ptO c s fullShare gO := by unfold recvPay; exact if_pos rfl
omit [FloatOps F] [Named F] in
theorem recvPay_one (c : Dev nD) (s : Fin 8) : recvPay gO gM c s 1 = ptM c s fullShare gM := by unfold recvPay; exact if_neg (by decide)
omit [FloatOps F] [Named F] in
theorem sendPay_zero (c : Dev nD) (o : Fin 8) : sendPay gO gM c o 0 = ptO c c (lendQ o) gO := by unfold sendPay; exact if_pos rfl
omit [FloatOps F] [Named F] in
theorem sendPay_one (c : Dev nD) (o : Fin 8) : sendPay gO gM c o 1 = ptM c c (lendQ o) gM := by unfold sendPay; exact if_neg (by decide)

/-- Both sends at offset `o`. -/
theorem wp_sendPair (c n n' : Dev nD) (o : Fin 8) (ho : o ≠ 0) (hn : n = nb c o) (hn' : n' = nb c o) (l : List (Fin 8 × Fin 2))
    {off off' : Fin 4 → ℕ} {h h'} (hoff : off = ![c.val, 0, 0, 0]) (hoff' : off' = ![c.val, 0, 0, 0])
    {sS sR sS' sR' : DmaSem sig} (hS : sS = sendS o 0) (hR : sR = recvS c 0) (hS' : sS' = sendS o 1) (hR' : sR' = recvS c 1)
    {hsc : (oRow off h : Memref sig (Dev.tc n : Thread nD τ).2.kind .vmem S8x8x128 .f32).view.ref.isScScratch = false}
    {hsrc : (oRow off h).view.WordExact} {hdst : (oRow off h).view.WordExact}
    {hsem : DmaTarget.Typed .vmem (.dma sR) (.remote (Dev.tc n : Thread nD τ) (oRow off h : Memref sig .tc .vmem S8x8x128 .f32) (.dma sS) hsc)}
    {hsc' : (mRow off' h' : Memref sig (Dev.tc n' : Thread nD τ).2.kind .vmem S2x8x8 .f32).view.ref.isScScratch = false}
    {hsrc' : (mRow off' h').view.WordExact} {hdst' : (mRow off' h').view.WordExact}
    {hsem' : DmaTarget.Typed .vmem (.dma sR') (.remote (Dev.tc n' : Thread nD τ) (mRow off' h' : Memref sig .tc .vmem S2x8x8 .f32) (.dma sS') hsc')}
    {α : Type} {Q : α → sProp 𝕄} {k : PUnit → Prog (TpuEff nD τ sig (Elt F) Λ₀ .tc) α} (W : Waits sig Bool) :
    iprop(records gO gM K ∗ owes (c : Thread nD τ) (owedR c ((o, 0) :: (o, 1) :: l)) W ∗ ownSh gO gM c o ∗ barPay (F := F) c (nb c o) ∗ payTok (F := F) c o)
      ⊢ iprop(((sendCr (F := F) c o ∗ owes (c : Thread nD τ) (owedR c l) W) -∗ wp frame (wpE (defs₀ (F := F)) Variants.none (c : Thread nD τ) none) Set.univ (k ⟨⟩) Q)
          -∗ wp frame (wpE (defs₀ (F := F)) Variants.none (c : Thread nD τ) none) Set.univ
            (.op (.enqueueDma (oRow off h) (.remote (Dev.tc n : Thread nD τ) (oRow off h) (.dma sS) hsc) (.dma sR) hsrc hdst hsem) fun _ =>
             .op (.enqueueDma (mRow off' h') (.remote (Dev.tc n' : Thread nD τ) (mRow off' h') (.dma sS') hsc') (.dma sR') hsrc' hdst' hsem') k) Q) := by
  unfold ownSh barPay payTok sendCr
  iintro ⟨#HR, HO, ⟨HsO, HsM⟩, ⟨HdO, HdM⟩, ⟨⟨HrO, HrM⟩, HtO, HtM⟩⟩ Hk
  iapply (wp_sendO gO gM K c n o ho hn ((o, 1) :: l) hoff hS hR W) $$ [HO HsO HdO HtO HrO]
  · isplitr; · iexact HR
    isplitl [HO]; · iexact HO
    isplitl [HsO]; · iexact HsO
    isplitl [HdO]; · iexact HdO
    isplitl [HtO]; · iexact HtO
    iexact HrO
  iintro ⟨HcO, HO⟩
  iapply (wp_sendM gO gM K c n' o ho hn' l hoff' hS' hR' W) $$ [HO HsM HdM HtM HrM]
  · isplitr; · iexact HR
    isplitl [HO]; · iexact HO
    isplitl [HsM]; · iexact HsM
    isplitl [HdM]; · iexact HdM
    isplitl [HtM]; · iexact HtM
    iexact HrM
  iintro ⟨HcM, HO⟩
  iapply Hk
  isplitl [HcO HcM]
  · isplitl [HcO]; · iexact HcO
    iexact HcM
  iexact HO

/-- Both waits for the arrivals from the device at offset `o`. -/
theorem wp_recvPair (c : Dev nD) (o : Fin 8) (ho : o ≠ 0) {sR sR' : DmaSem sig} (hR : sR = recvS (nb c o) 0) (hR' : sR' = recvS (nb c o) 1)
    {off off' : Fin 4 → ℕ} {h h'}
    {hsrc : (oRow off h).view.WordExact} {hdst : (oRow off h).view.WordExact} {hsrc' : (mRow off' h').view.WordExact} {hdst' : (mRow off' h').view.WordExact}
    {α : Type} {Q : α → sProp 𝕄} {k : PUnit → Prog (TpuEff nD τ sig (Elt F) Λ₀ .tc) α} :
    iprop(records gO gM K ∗ (∃ W, owes (c : Thread nD τ) 0 W) ∗ recvCr (F := F) c o ∗ recvPos (F := F) c o)
      ⊢ iprop((((∃ W, owes (c : Thread nD τ) 0 W) ∗ gotSl gO gM c o ∗ recvZ (F := F) c o) -∗ wp frame (wpE (defs₀ (F := F)) Variants.none (c : Thread nD τ) none) Set.univ (k ⟨⟩) Q)
          -∗ wp frame (wpE (defs₀ (F := F)) Variants.none (c : Thread nD τ) none) Set.univ
            (.op (.waitDma2 sR (oRow off h) (oRow off h) hsrc hdst) fun _ => .op (.waitDma2 sR' (mRow off' h') (mRow off' h') hsrc' hdst') k) Q) := by
  unfold recvCr recvPos gotSl recvZ
  iintro ⟨#HR, ⟨%W, HO⟩, ⟨HcO, HcM⟩, HpO, HpM⟩ Hk
  iapply (wp_recvwait gO gM K c (nb c o) 0 (nb_ne c o ho) hR (oRow_credit off h) W) $$ [HO HcO HpO]
  · isplitr; · iexact HR
    isplitl [HcO]; · iexact HcO
    isplitl [HO]; · iexact HO
    iexact HpO
  iintro ⟨HO, HgO, HzO⟩
  iapply (wp_recvwait gO gM K c (nb c o) 1 (nb_ne c o ho) hR' (mRow_credit off' h') _) $$ [HO HcM HpM]
  · isplitr; · iexact HR
    isplitl [HcM]; · iexact HcM
    isplitl [HO]; · iexact HO
    iexact HpM
  iintro ⟨HO, HgM, HzM⟩
  iapply Hk
  isplitl [HO]; · iexists _; iexact HO
  isplitl [HgO HgM]
  · isplitl [HgO]; · iapply (Entails.of_eq (recvPay_zero gO gM c (nb c o))); iexact HgO
    iapply (Entails.of_eq (recvPay_one gO gM c (nb c o))); iexact HgM
  isplitl [HzO]; · iexact HzO
  iexact HzM

/-- Both waits for its own sends at offset `o`. -/
theorem wp_sendwPair (c : Dev nD) (o : Fin 8) (ho : o ≠ 0) {sS sS' : DmaSem sig} (hS : sS = sendS o 0) (hS' : sS' = sendS o 1)
    {off off' : Fin 4 → ℕ} {h h'}
    {hsrc : (oRow off h).view.WordExact} {hdst : (oRow off h).view.WordExact} {hsrc' : (mRow off' h').view.WordExact} {hdst' : (mRow off' h').view.WordExact}
    {α : Type} {Q : α → sProp 𝕄} {k : PUnit → Prog (TpuEff nD τ sig (Elt F) Λ₀ .tc) α} :
    iprop(records gO gM K ∗ (∃ W, owes (c : Thread nD τ) 0 W) ∗ sendCr (F := F) c o ∗ sendPos (F := F) c o)
      ⊢ iprop((((∃ W, owes (c : Thread nD τ) 0 W) ∗ ownSh gO gM c o ∗ sendZ (F := F) c o) -∗ wp frame (wpE (defs₀ (F := F)) Variants.none (c : Thread nD τ) none) Set.univ (k ⟨⟩) Q)
          -∗ wp frame (wpE (defs₀ (F := F)) Variants.none (c : Thread nD τ) none) Set.univ
            (.op (.waitDma2 sS (oRow off h) (oRow off h) hsrc hdst) fun _ => .op (.waitDma2 sS' (mRow off' h') (mRow off' h') hsrc' hdst') k) Q) := by
  unfold sendCr sendPos ownSh sendZ
  iintro ⟨#HR, ⟨%W, HO⟩, ⟨HcO, HcM⟩, HpO, HpM⟩ Hk
  iapply (wp_sendwait gO gM K c o 0 ho hS (oRow_credit off h) W) $$ [HO HcO HpO]
  · isplitr; · iexact HR
    isplitl [HcO]; · iexact HcO
    isplitl [HO]; · iexact HO
    iexact HpO
  iintro ⟨HO, HgO, HzO⟩
  iapply (wp_sendwait gO gM K c o 1 ho hS' (mRow_credit off' h') _) $$ [HO HcM HpM]
  · isplitr; · iexact HR
    isplitl [HcM]; · iexact HcM
    isplitl [HO]; · iexact HO
    iexact HpM
  iintro ⟨HO, HgM, HzM⟩
  iapply Hk
  isplitl [HO]; · iexists _; iexact HO
  isplitl [HgO HgM]
  · isplitl [HgO]; · iapply (Entails.of_eq (sendPay_zero gO gM c o)); iexact HgO
    iapply (Entails.of_eq (sendPay_one gO gM c o)); iexact HgM
  isplitl [HzO]; · iexact HzO
  iexact HzM

/-! ## Taking the slots apart and together -/

/-- Eight things, listed. -/
abbrev eight (Φ : Fin 8 → sProp 𝕄) : sProp 𝕄 := iprop(Φ 0 ∗ Φ 1 ∗ Φ 2 ∗ Φ 3 ∗ Φ 4 ∗ Φ 5 ∗ Φ 6 ∗ Φ 7)
/-- The seven offsets of the other devices, listed. -/
abbrev seven (Φ : Fin 8 → sProp 𝕄) : sProp 𝕄 := iprop(Φ 1 ∗ Φ 2 ∗ Φ 3 ∗ Φ 4 ∗ Φ 5 ∗ Φ 6 ∗ Φ 7)

omit [FloatOps F] [Named F] in
theorem bigSep_eight (Φ : Fin 8 → sProp 𝕄) : bigSep Finset.univ Φ = eight Φ :=
  bigSep_univ_eq_bigSepL [0, 1, 2, 3, 4, 5, 6, 7] (by decide) (by decide) Φ

omit [FloatOps F] [Named F] in
/-- A device's own two slots, as the eight shares of them. -/
theorem own_eight (c : Dev nD) : iprop(ptO c c fullShare gO ∗ ptM c c fullShare gM) = eight fun o => ownSh gO gM c o := by
  rw [ptO_leaves, ptM_leaves, ← bigSep_eight]
  unfold ownSh
  exact (bigSep_sep _ _ _).symm

omit [FloatOps F] [Named F] in
/-- The two gather buffers, as the slots of the eight offsets. -/
theorem got_eight (c : Dev nD) :
    iprop(((Memref.whole cc0_scratch3).view.loc (c : Thread nD τ) ↦{fullShare} gO) ∗ ((Memref.whole cc0_scratch4).view.loc (c : Thread nD τ) ↦{fullShare} gM))
      = eight fun o => gotSl gO gM c o := by
  have h1 : (bigSep Finset.univ fun s : Fin 8 => ptO c s fullShare gO : sProp 𝕄) = bigSep Finset.univ fun o : Fin 8 => ptO c (nb c o) fullShare gO :=
    bigSep_univ_equiv (nbEquiv c) _
  have h2 : (bigSep Finset.univ fun s : Fin 8 => ptM c s fullShare gM : sProp 𝕄) = bigSep Finset.univ fun o : Fin 8 => ptM c (nb c o) fullShare gM :=
    bigSep_univ_equiv (nbEquiv c) _
  rw [ptO_split, ptM_split, h1, h2, ← bigSep_eight]
  unfold gotSl
  exact (bigSep_sep _ _ _).symm

omit [FloatOps F] [Named F] in
theorem own_got (c : Dev nD) : iprop(ptO c c fullShare gO ∗ ptM c c fullShare gM) ⊢ gotSl gO gM c 0 := by
  unfold gotSl; rw [nb_zero]

/-! ## The program's text from the stores on -/

/-- The part of the body after the partial result is computed. -/
abbrev tailProg (arg0 : Memref sig .tc .smem S8 .i32) (harg0 : arg0.IsWhole) (arg1 : Memref sig .tc .vmem S8x1x8x128 .f32) (harg1 : arg1.IsWhole) (arg2 : Memref sig .tc .hbm S512x16x8x128 .f32) (harg2 : arg2.IsWhole) (arg3 : Memref sig .tc .hbm S512x16x8x128 .f32) (harg3 : arg3.IsWhole) (arg4 : Memref sig .tc .vmem S8x512 .i32) (harg4 : arg4.IsWhole) (arg5 : Memref sig .tc .vmem S8x1x8x128 .f32) (harg5 : arg5.IsWhole) (arg6 : Memref sig .tc .vmem S2x8x128x16x128 .f32) (harg6 : arg6.IsWhole) (arg7 : Memref sig .tc .vmem S2x8x128x16x128 .f32) (harg7 : arg7.IsWhole) (arg8 : DmaSems sig S2x2x8) (arg9 : Memref sig .tc .vmem S8x8x8x128 .f32) (harg9 : arg9.IsWhole) (arg10 : Memref sig .tc .vmem S8x2x8x8 .f32) (harg10 : arg10.IsWhole) (arg11 : DmaSems sig S8x2) (arg12 : DmaSems sig S8x2) (d0 : Dev nD) (v2 : BitVec 32) (v638 : FVec F S8x1 .f32) (v642 : FVec F S8x128 .f32) (v992 : FVec F S8x1 .f32) (v996 : FVec F S8x128 .f32) (v1346 : FVec F S8x1 .f32) (v1350 : FVec F S8x128 .f32) (v1604 : FVec F S8x1 .f32) (v1608 : FVec F S8x128 .f32) (v1611 : FVec F S8x1 .f32) (v1618 : FVec F S8x1 .f32) (v1636 : FVec F S8x1x128 .f32) (v1639 : FVec F S8x1 .f32) (v1646 : FVec F S8x1 .f32) (v1664 : FVec F S8x1x128 .f32) (v1667 : FVec F S8x1 .f32) (v1674 : FVec F S8x1 .f32) (v1692 : FVec F S8x1x128 .f32) (v1695 : FVec F S8x1 .f32) (v1702 : FVec F S8x1 .f32) (v1720 : FVec F S8x1x128 .f32) (v1723 : FVec F S8x1 .f32) (v1730 : FVec F S8x1 .f32) (v1748 : FVec F S8x1x128 .f32) (v1751 : FVec F S8x1 .f32) (v1758 : FVec F S8x1 .f32) (v1776 : FVec F S8x1x128 .f32) (v1779 : FVec F S8x1 .f32) (v1786 : FVec F S8x1 .f32) (v1804 : FVec F S8x1x128 .f32) (v1805 : FVec F S8x4 .f32) :
    Prog (TpuEff nD τ sig (Elt F) Λ₀ .tc) PUnit := do
  let v1850 : BitVec 32 ← k0_part71 arg0 harg0 arg1 harg1 arg2 harg2 arg3 harg3 arg4 harg4 arg5 harg5 arg6 harg6 arg7 harg7 arg8 arg9 harg9 arg10 harg10 arg11 arg12 d0 v2 v638 v642 v992 v996 v1346 v1350 v1604 v1608 v1611 v1618 v1636 v1639 v1646 v1664 v1667 v1674 v1692 v1695 v1702 v1720 v1723 v1730 v1748 v1751 v1758 v1776 v1779 v1786 v1804 v1805
  let v1872 : BitVec 32 ← k0_part72 arg0 harg0 arg1 harg1 arg2 harg2 arg3 harg3 arg4 harg4 arg5 harg5 arg6 harg6 arg7 harg7 arg8 arg9 harg9 arg10 harg10 arg11 arg12 d0 v2 v1850
  let v1905 : BitVec 32 ← k0_part73 arg0 harg0 arg1 harg1 arg2 harg2 arg3 harg3 arg4 harg4 arg5 harg5 arg6 harg6 arg7 harg7 arg8 arg9 harg9 arg10 harg10 arg11 arg12 d0 v2 v1872
  k0_part74 arg0 harg0 arg1 harg1 arg2 harg2 arg3 harg3 arg4 harg4 arg5 harg5 arg6 harg6 arg7 harg7 arg8 arg9 harg9 arg10 harg10 arg11 arg12 d0 v2 v1905
  let v1960 : BitVec 32 ← k0_part75 arg0 harg0 arg1 harg1 arg2 harg2 arg3 harg3 arg4 harg4 arg5 harg5 arg6 harg6 arg7 harg7 arg8 arg9 harg9 arg10 harg10 arg11 arg12 d0 v2
  let v1982 : BitVec 32 ← k0_part76 arg0 harg0 arg1 harg1 arg2 harg2 arg3 harg3 arg4 harg4 arg5 harg5 arg6 harg6 arg7 harg7 arg8 arg9 harg9 arg10 harg10 arg11 arg12 d0 v2 v1960
  k0_part77 arg0 harg0 arg1 harg1 arg2 harg2 arg3 harg3 arg4 harg4 arg5 harg5 arg6 harg6 arg7 harg7 arg8 arg9 harg9 arg10 harg10 arg11 arg12 d0 v2 v1982
  let ⟨v2039, c8_i32_2457⟩ : Σ' (v2039 : BitVec 32), BitVec 32 ← k0_part78 arg0 harg0 arg1 harg1 arg2 harg2 arg3 harg3 arg4 harg4 arg5 harg5 arg6 harg6 arg7 harg7 arg8 arg9 harg9 arg10 harg10 arg11 arg12 d0 v2
  let v2058 : BitVec 32 ← k0_part79 arg0 harg0 arg1 harg1 arg2 harg2 arg3 harg3 arg4 harg4 arg5 harg5 arg6 harg6 arg7 harg7 arg8 arg9 harg9 arg10 harg10 arg11 arg12 d0 v2 v2039 c8_i32_2457
  k0_part80 arg0 harg0 arg1 harg1 arg2 harg2 arg3 harg3 arg4 harg4 arg5 harg5 arg6 harg6 arg7 harg7 arg8 arg9 harg9 arg10 harg10 arg11 arg12 d0 v2 v2058
  let v2112 : BitVec 32 ← k0_part81 arg0 harg0 arg1 harg1 arg2 harg2 arg3 harg3 arg4 harg4 arg5 harg5 arg6 harg6 arg7 harg7 arg8 arg9 harg9 arg10 harg10 arg11 arg12 d0 v2
  k0_part82 arg0 harg0 arg1 harg1 arg2 harg2 arg3 harg3 arg4 harg4 arg5 harg5 arg6 harg6 arg7 harg7 arg8 arg9 harg9 arg10 harg10 arg11 arg12 d0 v2112
  k0_part83 arg0 harg0 arg1 harg1 arg2 harg2 arg3 harg3 arg4 harg4 arg5 harg5 arg6 harg6 arg7 harg7 arg8 arg9 harg9 arg10 harg10 arg11 arg12 d0
  k0_part84 arg0 harg0 arg1 harg1 arg2 harg2 arg3 harg3 arg4 harg4 arg5 harg5 arg6 harg6 arg7 harg7 arg8 arg9 harg9 arg10 harg10 arg11 arg12 d0
  k0_part85 arg0 harg0 arg1 harg1 arg2 harg2 arg3 harg3 arg4 harg4 arg5 harg5 arg6 harg6 arg7 harg7 arg8 arg9 harg9 arg10 harg10 arg11 arg12 d0
  let ⟨v2217, v2222, v2223⟩ : Σ' (v2217 : Vec F S8x8x8x128 .f32) (v2222 : FVec F S8x8x8 .f32), FVec F S8x8x8 .f32 ← k0_part86 arg0 harg0 arg1 harg1 arg2 harg2 arg3 harg3 arg4 harg4 arg5 harg5 arg6 harg6 arg7 harg7 arg8 arg9 harg9 arg10 harg10 arg11 arg12 d0
  let v2232 : Vec F S8x1x8x128 .f32 ← Prog.lift (.load arg5 (Rect.unit (s := S8x1x8x128) ![0, 0, 0, 0] S8x1x8x128.size inb_S8x1x8x128_S8x1x8x128_0_0_0_0).toLoadRect (View.loadsAt_vmem h_S8x1x8x128))
  Prog.lift (.store arg5 (Rect.unit (s := S8x1x8x128) ![0, 0, 0, 0] S8x1x8x128.size inb_S8x1x8x128_S8x1x8x128_0_0_0_0) (k0_pay1 v2217 v2222 v2223) Finset.univ (View.stores_vmem_bits_univ h_S8x1x8x128 rfl) (.inl rfl))
  pure ⟨⟩

/-- What the combination of the eight slots stores. -/
def result (gO : CO F) (gM : CM F) : Vec F S8x1x8x128 .f32 :=
  k0_pay1 ((Memref.whole cc0_scratch3).view.readAt (Elt F) (Rect.unit (s := S8x8x8x128) ![0, 0, 0, 0] S8x8x8x128.size inb_S8x8x8x128_S8x8x8x128_0_0_0_0).toLoadRect gO)
    (k0_pay240 ((Memref.whole cc0_scratch4).view.readAt (Elt F) (Rect.unit (s := S8x2x8x8) ![0, 0, 0, 0] S8x1x8x8.size inb_S8x2x8x8_S8x1x8x8_0_0_0_0).toLoadRect gM))
    (k0_pay241 ((Memref.whole cc0_scratch4).view.readAt (Elt F) (Rect.unit (s := S8x2x8x8) ![0, 0, 0, 0] S8x1x8x8.size inb_S8x2x8x8_S8x1x8x8_0_0_0_0).toLoadRect gM)
      ((Memref.whole cc0_scratch4).view.readAt (Elt F) (Rect.unit (s := S8x2x8x8) ![0, 1, 0, 0] S8x1x8x8.size inb_S8x2x8x8_S8x1x8x8_0_1_0_0).toLoadRect gM))

omit [FloatOps F] [Named F] in
/-- The result's store covers its whole buffer. -/
theorem write_out (f w : (cc0_stg3_0 : Ref sig .tc).ty.Contents (Elt F)) :
    ((Memref.whole cc0_stg3_0).access (Rect.unit (s := S8x1x8x128) ![0, 0, 0, 0] S8x1x8x128.size inb_S8x1x8x128_S8x1x8x128_0_0_0_0) : View sig .tc _ _ _).write (Elt F) f w Finset.univ = w :=
  Memref.write_access_unit_zero_univ (Elt F) cc0_stg3_0 (by funext a; revert a; decide) _ f w

theorem oAcc_sub (c : Dev nD) : ((Memref.whole cc0_scratch3).access (Rect.unit (s := S8x8x8x128) (k0_off1 c) S1x8x8x128.size (k0_off1_inb c))).setOn Finset.univ ⊆ oSet c :=
  subset_of_eq ((View.set_slice_whole _ _).trans (oRect_set c _ _ (k0_off1_eq c)))
theorem mAcc_sub (c : Dev nD) : ((Memref.whole cc0_scratch4).access (Rect.unit (s := S8x2x8x8) (k0_off2 c) S1x2x8x8.size (k0_off2_inb c))).setOn Finset.univ ⊆ mSet c :=
  subset_of_eq ((View.set_slice_whole _ _).trans (mRect_set c _ _ (k0_off2_eq c)))
theorem oLoad_sub (c : Dev nD) : (Memref.whole cc0_scratch3 : Memref sig .tc .vmem S8x8x8x128 .f32).view.setOn (Rect.unit (s := S8x8x8x128) (k0_off1 c) S1x8x8x128.size (k0_off1_inb c)).toLoadRect.set ⊆ oSet c := by
  intro i hi
  obtain ⟨x, hx, rfl⟩ := Finset.mem_map.mp hi
  exact (subset_of_eq (oRect_set c _ _ (k0_off1_eq c))) hx
theorem mLoad_sub (c : Dev nD) : (Memref.whole cc0_scratch4 : Memref sig .tc .vmem S8x2x8x8 .f32).view.setOn (Rect.unit (s := S8x2x8x8) (k0_off2 c) S1x2x8x8.size (k0_off2_inb c)).toLoadRect.set ⊆ mSet c := by
  intro i hi
  obtain ⟨x, hx, rfl⟩ := Finset.mem_map.mp hi
  exact (subset_of_eq (mRect_set c _ _ (k0_off2_eq c))) hx

set_option maxHeartbeats 4000000 in
/-- From the two stores to the result: with the slots handed over, the tokens, the credits and the marks, the gather
    buffers end at `gO`, `gM` and the result is their combination. -/
theorem wp_tail (c : Dev nD) (v2 : BitVec 32) (v638 : FVec F S8x1 .f32) (v642 : FVec F S8x128 .f32) (v992 : FVec F S8x1 .f32) (v996 : FVec F S8x128 .f32) (v1346 : FVec F S8x1 .f32) (v1350 : FVec F S8x128 .f32) (v1604 : FVec F S8x1 .f32) (v1608 : FVec F S8x128 .f32) (v1611 : FVec F S8x1 .f32) (v1618 : FVec F S8x1 .f32) (v1636 : FVec F S8x1x128 .f32) (v1639 : FVec F S8x1 .f32) (v1646 : FVec F S8x1 .f32) (v1664 : FVec F S8x1x128 .f32) (v1667 : FVec F S8x1 .f32) (v1674 : FVec F S8x1 .f32) (v1692 : FVec F S8x1x128 .f32) (v1695 : FVec F S8x1 .f32) (v1702 : FVec F S8x1 .f32) (v1720 : FVec F S8x1x128 .f32) (v1723 : FVec F S8x1 .f32) (v1730 : FVec F S8x1 .f32) (v1748 : FVec F S8x1x128 .f32) (v1751 : FVec F S8x1 .f32) (v1758 : FVec F S8x1 .f32) (v1776 : FVec F S8x1x128 .f32) (v1779 : FVec F S8x1 .f32) (v1786 : FVec F S8x1 .f32) (v1804 : FVec F S8x1x128 .f32) (v1805 : FVec F S8x4 .f32)
    (hO : ∀ f, ∀ i ∈ oSet c, ((Memref.whole cc0_scratch3).access (Rect.unit (s := S8x8x8x128) (k0_off1 c) S1x8x8x128.size (k0_off1_inb c))).write (Elt F) f (k0_pay238 v642 v996 v1350 v1608 v1636 v1664 v1692 v1720 v1748 v1776 v1804 v1805) Finset.univ i = gO i)
    (hM : ∀ f, ∀ i ∈ mSet c, ((Memref.whole cc0_scratch4).access (Rect.unit (s := S8x2x8x8) (k0_off2 c) S1x2x8x8.size (k0_off2_inb c))).write (Elt F) f (k0_pay239 v638 v992 v1346 v1604 v1611 v1618 v1639 v1646 v1667 v1674 v1695 v1702 v1723 v1730 v1751 v1758 v1779 v1786 v1805) Finset.univ i = gM i)
    (W : Waits sig Bool) (Q : PUnit → sProp 𝕄) :
    iprop(records gO gM K ∗ owes (c : Thread nD τ) (owedR c sendList) W ∗ (∃ f, ptO (F := F) c c fullShare f) ∗ (∃ f, ptM (F := F) c c fullShare f)
        ∗ (∃ f, (Memref.whole cc0_stg3_0).view.loc (c : Thread nD τ) ↦{fullShare} f)
        ∗ seven (fun o => barPay (F := F) c (nb c o)) ∗ seven (fun o => payTok (F := F) c o)
        ∗ seven (fun o => recvCr (F := F) c o) ∗ seven (fun o => recvPos (F := F) c o) ∗ seven (fun o => sendPos (F := F) c o))
      ⊢ iprop((((∃ W, owes (c : Thread nD τ) 0 W) ∗ ((Memref.whole cc0_scratch3).view.loc (c : Thread nD τ) ↦{fullShare} gO) ∗ ((Memref.whole cc0_scratch4).view.loc (c : Thread nD τ) ↦{fullShare} gM)
          ∗ ((Memref.whole cc0_stg3_0).view.loc (c : Thread nD τ) ↦{fullShare} result gO gM)
          ∗ seven (fun o => recvZ (F := F) c o) ∗ seven (fun o => sendZ (F := F) c o)) -∗ Q ⟨⟩)
        -∗ wp frame (wpE (defs₀ (F := F)) Variants.none (c : Thread nD τ) none) Set.univ
            (tailProg (Memref.whole cc0_stg0_0) (Memref.isWhole_whole _) (Memref.whole cc0_stg1_0) (Memref.isWhole_whole _) (Memref.whole main_arg1) (Memref.isWhole_whole _) (Memref.whole main_arg2) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 (Memref.whole cc0_scratch3) (Memref.isWhole_whole _) (Memref.whole cc0_scratch4) (Memref.isWhole_whole _) cc0_scratch5 cc0_scratch6 c v2 v638 v642 v992 v996 v1346 v1350 v1604 v1608 v1611 v1618 v1636 v1639 v1646 v1664 v1667 v1674 v1692 v1695 v1702 v1720 v1723 v1730 v1748 v1751 v1758 v1776 v1779 v1786 v1804 v1805) Q) := by
  iintro ⟨#HR, HO, ⟨%fo, HsO⟩, ⟨%fm, HsM⟩, ⟨%fr, Hout⟩, ⟨HB1, HB2, HB3, HB4, HB5, HB6, HB7⟩, ⟨HT1, HT2, HT3, HT4, HT5, HT6, HT7⟩,
    ⟨HC1, HC2, HC3, HC4, HC5, HC6, HC7⟩, ⟨HP1, HP2, HP3, HP4, HP5, HP6, HP7⟩, ⟨HS1, HS2, HS3, HS4, HS5, HS6, HS7⟩⟩ Hk
  unfold tailProg
  simp only [k0_part71_eq_skeleton, k0_part71_skel, k0_part72_eq_skeleton, k0_part72_skel, k0_part73_eq_skeleton, k0_part73_skel, k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel, k0_part80_eq_skeleton, k0_part80_skel, k0_part81_eq_skeleton, k0_part81_skel, k0_part82_eq_skeleton, k0_part82_skel, k0_part83_eq_skeleton, k0_part83_skel, k0_part84_eq_skeleton, k0_part84_skel, k0_part85_eq_skeleton, k0_part85_skel, k0_part86_eq_skeleton, k0_part86_skel,
    Prog.lift, Prog.bind_op, Prog.bind_ret, Prog.pure_eq_ret]
  unfold ptO ptM
  iapply (wp_load Variants.none (c : Thread nD τ) none Set.univ (m := Memref.whole cc0_scratch3) (oLoad_sub c)) $$ HsO; iintro HsO
  iapply (wp_store Variants.none (c : Thread nD τ) none Set.univ (m := Memref.whole cc0_scratch3) (Mk := Finset.univ) (oAcc_sub c)) $$ HsO; iintro HsO
  iapply (wp_load Variants.none (c : Thread nD τ) none Set.univ (m := Memref.whole cc0_scratch4) (mLoad_sub c)) $$ HsM; iintro HsM
  iapply (wp_store Variants.none (c : Thread nD τ) none Set.univ (m := Memref.whole cc0_scratch4) (Mk := Finset.univ) (mAcc_sub c)) $$ HsM; iintro HsM
  ihave Hown := (Entails.of_eq (own_eight gO gM c)) $$ [HsO HsM]
  · isplitl [HsO]
    · unfold ptO; iapply (Entails.of_eq (pointsTo_congr fun i hi => hO fo i hi)); iexact HsO
    · unfold ptM; iapply (Entails.of_eq (pointsTo_congr fun i hi => hM fm i hi)); iexact HsM
  icases Hown with ⟨HW0, HW1, HW2, HW3, HW4, HW5, HW6, HW7⟩
  iapply (wp_sendPair gO gM K c _ _ 1 (by decide) (Fin.ext (k0_dev8_eq c)) (Fin.ext (k0_dev9_eq c)) [(2, 0), (2, 1), (3, 0), (3, 1), (4, 0), (4, 1), (5, 0), (5, 1), (6, 0), (6, 1), (7, 0), (7, 1)] (k0_off4_eq c) (k0_off6_eq c)
      (sendSem 1 0 _ _ rfl) (recvSem c 0 _ _ (k0_off3_eq c)) (sendSem 1 1 _ _ rfl) (recvSem c 1 _ _ (k0_off5_eq c)) W) $$ [HO HW1 HB1 HT1]
  · isplitr; · iexact HR
    isplitl [HO]; · iexact HO
    isplitl [HW1]; · iexact HW1
    isplitl [HB1]; · iexact HB1
    iexact HT1
  iintro ⟨HD1, HO⟩
  iapply (wp_sendPair gO gM K c _ _ 2 (by decide) (Fin.ext (k0_dev10_eq c)) (Fin.ext (k0_dev11_eq c)) [(3, 0), (3, 1), (4, 0), (4, 1), (5, 0), (5, 1), (6, 0), (6, 1), (7, 0), (7, 1)] (k0_off4_eq c) (k0_off6_eq c)
      (sendSem 2 0 _ _ rfl) (recvSem c 0 _ _ (k0_off3_eq c)) (sendSem 2 1 _ _ rfl) (recvSem c 1 _ _ (k0_off5_eq c)) W) $$ [HO HW2 HB2 HT2]
  · isplitr; · iexact HR
    isplitl [HO]; · iexact HO
    isplitl [HW2]; · iexact HW2
    isplitl [HB2]; · iexact HB2
    iexact HT2
  iintro ⟨HD2, HO⟩
  iapply (wp_sendPair gO gM K c _ _ 3 (by decide) (Fin.ext (k0_dev12_eq c)) (Fin.ext (k0_dev13_eq c)) [(4, 0), (4, 1), (5, 0), (5, 1), (6, 0), (6, 1), (7, 0), (7, 1)] (k0_off4_eq c) (k0_off6_eq c)
      (sendSem 3 0 _ _ rfl) (recvSem c 0 _ _ (k0_off3_eq c)) (sendSem 3 1 _ _ rfl) (recvSem c 1 _ _ (k0_off5_eq c)) W) $$ [HO HW3 HB3 HT3]
  · isplitr; · iexact HR
    isplitl [HO]; · iexact HO
    isplitl [HW3]; · iexact HW3
    isplitl [HB3]; · iexact HB3
    iexact HT3
  iintro ⟨HD3, HO⟩
  iapply (wp_sendPair gO gM K c _ _ 4 (by decide) (Fin.ext (k0_dev14_eq c)) (Fin.ext (k0_dev15_eq c)) [(5, 0), (5, 1), (6, 0), (6, 1), (7, 0), (7, 1)] (k0_off4_eq c) (k0_off6_eq c)
      (sendSem 4 0 _ _ rfl) (recvSem c 0 _ _ (k0_off3_eq c)) (sendSem 4 1 _ _ rfl) (recvSem c 1 _ _ (k0_off5_eq c)) W) $$ [HO HW4 HB4 HT4]
  · isplitr; · iexact HR
    isplitl [HO]; · iexact HO
    isplitl [HW4]; · iexact HW4
    isplitl [HB4]; · iexact HB4
    iexact HT4
  iintro ⟨HD4, HO⟩
  iapply (wp_sendPair gO gM K c _ _ 5 (by decide) (Fin.ext (k0_dev16_eq c)) (Fin.ext (k0_dev17_eq c)) [(6, 0), (6, 1), (7, 0), (7, 1)] (k0_off4_eq c) (k0_off6_eq c)
      (sendSem 5 0 _ _ rfl) (recvSem c 0 _ _ (k0_off3_eq c)) (sendSem 5 1 _ _ rfl) (recvSem c 1 _ _ (k0_off5_eq c)) W) $$ [HO HW5 HB5 HT5]
  · isplitr; · iexact HR
    isplitl [HO]; · iexact HO
    isplitl [HW5]; · iexact HW5
    isplitl [HB5]; · iexact HB5
    iexact HT5
  iintro ⟨HD5, HO⟩
  iapply (wp_sendPair gO gM K c _ _ 6 (by decide) (Fin.ext (k0_dev18_eq c)) (Fin.ext (k0_dev19_eq c)) [(7, 0), (7, 1)] (k0_off4_eq c) (k0_off6_eq c)
      (sendSem 6 0 _ _ rfl) (recvSem c 0 _ _ (k0_off3_eq c)) (sendSem 6 1 _ _ rfl) (recvSem c 1 _ _ (k0_off5_eq c)) W) $$ [HO HW6 HB6 HT6]
  · isplitr; · iexact HR
    isplitl [HO]; · iexact HO
    isplitl [HW6]; · iexact HW6
    isplitl [HB6]; · iexact HB6
    iexact HT6
  iintro ⟨HD6, HO⟩
  iapply (wp_sendPair gO gM K c _ _ 7 (by decide) (Fin.ext (k0_dev20_eq c)) (Fin.ext (k0_dev21_eq c)) [] (k0_off4_eq c) (k0_off6_eq c)
      (sendSem 7 0 _ _ rfl) (recvSem c 0 _ _ (k0_off3_eq c)) (sendSem 7 1 _ _ rfl) (recvSem c 1 _ _ (k0_off5_eq c)) W) $$ [HO HW7 HB7 HT7]
  · isplitr; · iexact HR
    isplitl [HO]; · iexact HO
    isplitl [HW7]; · iexact HW7
    isplitl [HB7]; · iexact HB7
    iexact HT7
  iintro ⟨HD7, HO⟩
  ihave HOw : (∃ W, owes (c : Thread nD τ) 0 W : sProp 𝕄) $$ [HO]
  · iexists W; iexact HO
  iapply (wp_recvPair gO gM K c 1 (by decide) (recvSem (nb c 1) 0 _ _ (k0_off7_eq c 0)) (recvSem (nb c 1) 1 _ _ (k0_off9_eq c 0))) $$ [HOw HC1 HP1]
  · isplitr; · iexact HR
    isplitl [HOw]; · iexact HOw
    isplitl [HC1]; · iexact HC1
    iexact HP1
  iintro ⟨HOw, HG1, HZ1⟩
  iapply (wp_recvPair gO gM K c 2 (by decide) (recvSem (nb c 2) 0 _ _ (k0_off7_eq c 1)) (recvSem (nb c 2) 1 _ _ (k0_off9_eq c 1))) $$ [HOw HC2 HP2]
  · isplitr; · iexact HR
    isplitl [HOw]; · iexact HOw
    isplitl [HC2]; · iexact HC2
    iexact HP2
  iintro ⟨HOw, HG2, HZ2⟩
  iapply (wp_recvPair gO gM K c 3 (by decide) (recvSem (nb c 3) 0 _ _ (k0_off7_eq c 2)) (recvSem (nb c 3) 1 _ _ (k0_off9_eq c 2))) $$ [HOw HC3 HP3]
  · isplitr; · iexact HR
    isplitl [HOw]; · iexact HOw
    isplitl [HC3]; · iexact HC3
    iexact HP3
  iintro ⟨HOw, HG3, HZ3⟩
  iapply (wp_recvPair gO gM K c 4 (by decide) (recvSem (nb c 4) 0 _ _ (k0_off7_eq c 3)) (recvSem (nb c 4) 1 _ _ (k0_off9_eq c 3))) $$ [HOw HC4 HP4]
  · isplitr; · iexact HR
    isplitl [HOw]; · iexact HOw
    isplitl [HC4]; · iexact HC4
    iexact HP4
  iintro ⟨HOw, HG4, HZ4⟩
  iapply (wp_recvPair gO gM K c 5 (by decide) (recvSem (nb c 5) 0 _ _ (k0_off7_eq c 4)) (recvSem (nb c 5) 1 _ _ (k0_off9_eq c 4))) $$ [HOw HC5 HP5]
  · isplitr; · iexact HR
    isplitl [HOw]; · iexact HOw
    isplitl [HC5]; · iexact HC5
    iexact HP5
  iintro ⟨HOw, HG5, HZ5⟩
  iapply (wp_recvPair gO gM K c 6 (by decide) (recvSem (nb c 6) 0 _ _ (k0_off7_eq c 5)) (recvSem (nb c 6) 1 _ _ (k0_off9_eq c 5))) $$ [HOw HC6 HP6]
  · isplitr; · iexact HR
    isplitl [HOw]; · iexact HOw
    isplitl [HC6]; · iexact HC6
    iexact HP6
  iintro ⟨HOw, HG6, HZ6⟩
  iapply (wp_recvPair gO gM K c 7 (by decide) (recvSem (nb c 7) 0 _ _ (k0_off7_eq c 6)) (recvSem (nb c 7) 1 _ _ (k0_off9_eq c 6))) $$ [HOw HC7 HP7]
  · isplitr; · iexact HR
    isplitl [HOw]; · iexact HOw
    isplitl [HC7]; · iexact HC7
    iexact HP7
  iintro ⟨HOw, HG7, HZ7⟩
  iapply (wp_sendwPair gO gM K c 1 (by decide) (sendSem 1 0 _ _ rfl) (sendSem 1 1 _ _ rfl)) $$ [HOw HD1 HS1]
  · isplitr; · iexact HR
    isplitl [HOw]; · iexact HOw
    isplitl [HD1]; · iexact HD1
    iexact HS1
  iintro ⟨HOw, HW1, HY1⟩
  iapply (wp_sendwPair gO gM K c 2 (by decide) (sendSem 2 0 _ _ rfl) (sendSem 2 1 _ _ rfl)) $$ [HOw HD2 HS2]
  · isplitr; · iexact HR
    isplitl [HOw]; · iexact HOw
    isplitl [HD2]; · iexact HD2
    iexact HS2
  iintro ⟨HOw, HW2, HY2⟩
  iapply (wp_sendwPair gO gM K c 3 (by decide) (sendSem 3 0 _ _ rfl) (sendSem 3 1 _ _ rfl)) $$ [HOw HD3 HS3]
  · isplitr; · iexact HR
    isplitl [HOw]; · iexact HOw
    isplitl [HD3]; · iexact HD3
    iexact HS3
  iintro ⟨HOw, HW3, HY3⟩
  iapply (wp_sendwPair gO gM K c 4 (by decide) (sendSem 4 0 _ _ rfl) (sendSem 4 1 _ _ rfl)) $$ [HOw HD4 HS4]
  · isplitr; · iexact HR
    isplitl [HOw]; · iexact HOw
    isplitl [HD4]; · iexact HD4
    iexact HS4
  iintro ⟨HOw, HW4, HY4⟩
  iapply (wp_sendwPair gO gM K c 5 (by decide) (sendSem 5 0 _ _ rfl) (sendSem 5 1 _ _ rfl)) $$ [HOw HD5 HS5]
  · isplitr; · iexact HR
    isplitl [HOw]; · iexact HOw
    isplitl [HD5]; · iexact HD5
    iexact HS5
  iintro ⟨HOw, HW5, HY5⟩
  iapply (wp_sendwPair gO gM K c 6 (by decide) (sendSem 6 0 _ _ rfl) (sendSem 6 1 _ _ rfl)) $$ [HOw HD6 HS6]
  · isplitr; · iexact HR
    isplitl [HOw]; · iexact HOw
    isplitl [HD6]; · iexact HD6
    iexact HS6
  iintro ⟨HOw, HW6, HY6⟩
  iapply (wp_sendwPair gO gM K c 7 (by decide) (sendSem 7 0 _ _ rfl) (sendSem 7 1 _ _ rfl)) $$ [HOw HD7 HS7]
  · isplitr; · iexact HR
    isplitl [HOw]; · iexact HOw
    isplitl [HD7]; · iexact HD7
    iexact HS7
  iintro ⟨HOw, HW7, HY7⟩
  ihave Hself := (Entails.of_eq (own_eight gO gM c).symm) $$ [HW0 HW1 HW2 HW3 HW4 HW5 HW6 HW7]
  · isplitl [HW0]; · iexact HW0
    isplitl [HW1]; · iexact HW1
    isplitl [HW2]; · iexact HW2
    isplitl [HW3]; · iexact HW3
    isplitl [HW4]; · iexact HW4
    isplitl [HW5]; · iexact HW5
    isplitl [HW6]; · iexact HW6
    iexact HW7
  ihave HG0 := (own_got gO gM c) $$ Hself
  ihave Hall := (Entails.of_eq (got_eight gO gM c).symm) $$ [HG0 HG1 HG2 HG3 HG4 HG5 HG6 HG7]
  · isplitl [HG0]; · iexact HG0
    isplitl [HG1]; · iexact HG1
    isplitl [HG2]; · iexact HG2
    isplitl [HG3]; · iexact HG3
    isplitl [HG4]; · iexact HG4
    isplitl [HG5]; · iexact HG5
    isplitl [HG6]; · iexact HG6
    iexact HG7
  icases Hall with ⟨HgO, HgM⟩
  iapply (wp_load Variants.none (c : Thread nD τ) none Set.univ (m := Memref.whole cc0_scratch4) (Finset.subset_univ _)) $$ HgM; iintro HgM
  iapply (wp_load Variants.none (c : Thread nD τ) none Set.univ (m := Memref.whole cc0_scratch4) (Finset.subset_univ _)) $$ HgM; iintro HgM
  iapply (wp_load Variants.none (c : Thread nD τ) none Set.univ (m := Memref.whole cc0_scratch3) (Finset.subset_univ _)) $$ HgO; iintro HgO
  iapply (wp_load Variants.none (c : Thread nD τ) none Set.univ (m := Memref.whole cc0_stg3_0) (Finset.subset_univ _)) $$ Hout; iintro Hout
  iapply (wp_store Variants.none (c : Thread nD τ) none Set.univ (m := Memref.whole cc0_stg3_0) (r := Rect.unit (s := S8x1x8x128) ![0, 0, 0, 0] S8x1x8x128.size inb_S8x1x8x128_S8x1x8x128_0_0_0_0) (Mk := Finset.univ) (Finset.subset_univ _)) $$ Hout; iintro Hout
  rw [write_out, wp_ret]; imodintro
  iapply Hk
  isplitl [HOw]; · iexact HOw
  isplitl [HgO]; · iexact HgO
  isplitl [HgM]; · iexact HgM
  isplitl [Hout]; · unfold result; iexact Hout
  isplitl [HZ1 HZ2 HZ3 HZ4 HZ5 HZ6 HZ7]
  · isplitl [HZ1]; · iexact HZ1
    isplitl [HZ2]; · iexact HZ2
    isplitl [HZ3]; · iexact HZ3
    isplitl [HZ4]; · iexact HZ4
    isplitl [HZ5]; · iexact HZ5
    isplitl [HZ6]; · iexact HZ6
    iexact HZ7
  isplitl [HY1]; · iexact HY1
  isplitl [HY2]; · iexact HY2
  isplitl [HY3]; · iexact HY3
  isplitl [HY4]; · iexact HY4
  isplitl [HY5]; · iexact HY5
  isplitl [HY6]; · iexact HY6
  iexact HY7

end Cert.Paged

end
-- ==== Proof.Run.lean ====
module

public import proofs.«01_k».proof.Proof.Tail

@[expose] public section

noncomputable section

/-!
# The run of one device

The body of the kernel on device `c`, from its shares of the set-up to what it leaves. What it stores in its own slots
of the two gather buffers is found by running it.
-/

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-- A whole buffer of device `c` with contents `f`. -/
abbrev pt (c : Dev nD) (b : Ref sig .tc) (f : Buf (Elt F) ((Memref.whole b).view.loc (c.tc : Thread nD τ))) : sProp (MM F) :=
  ((Memref.whole b).view.loc (c.tc : Thread nD τ)) ↦{fullShare} f
/-- The semaphore of one page copy, at zero. -/
abbrev cs (c : Dev nD) {off : Fin 3 → ℕ} (h : ∀ a, off a + S1x1x1.size a ≤ S2x2x8.size a) : sProp (MM F) :=
  semVal ((c.tc : Thread nD τ), SemLoc.dma ((cc0_scratch2.slice (Rect.unit (s := S2x2x8) off S1x1x1.size h)).squeeze S_ squeezes_S1x1x1_S_).sem) 0
/-- The semaphores of all page copies, at zero. -/
abbrev copySems (c : Dev nD) : sProp (MM F) :=
  iprop(cs c inb_S2x2x8_S1x1x1_0_0_0 ∗ cs c inb_S2x2x8_S1x1x1_0_0_1 ∗ cs c inb_S2x2x8_S1x1x1_0_0_2 ∗ cs c inb_S2x2x8_S1x1x1_0_0_3 ∗ cs c inb_S2x2x8_S1x1x1_0_0_4 ∗ cs c inb_S2x2x8_S1x1x1_0_0_5 ∗ cs c inb_S2x2x8_S1x1x1_0_0_6 ∗ cs c inb_S2x2x8_S1x1x1_0_0_7 ∗ cs c inb_S2x2x8_S1x1x1_0_1_0 ∗ cs c inb_S2x2x8_S1x1x1_0_1_1 ∗ cs c inb_S2x2x8_S1x1x1_0_1_2 ∗ cs c inb_S2x2x8_S1x1x1_0_1_3 ∗ cs c inb_S2x2x8_S1x1x1_0_1_4 ∗ cs c inb_S2x2x8_S1x1x1_0_1_5 ∗ cs c inb_S2x2x8_S1x1x1_0_1_6 ∗ cs c inb_S2x2x8_S1x1x1_0_1_7 ∗ cs c inb_S2x2x8_S1x1x1_1_0_0 ∗ cs c inb_S2x2x8_S1x1x1_1_0_1 ∗ cs c inb_S2x2x8_S1x1x1_1_0_2 ∗ cs c inb_S2x2x8_S1x1x1_1_0_3 ∗ cs c inb_S2x2x8_S1x1x1_1_0_4 ∗ cs c inb_S2x2x8_S1x1x1_1_0_5 ∗ cs c inb_S2x2x8_S1x1x1_1_0_6 ∗ cs c inb_S2x2x8_S1x1x1_1_0_7 ∗ cs c inb_S2x2x8_S1x1x1_1_1_0 ∗ cs c inb_S2x2x8_S1x1x1_1_1_1 ∗ cs c inb_S2x2x8_S1x1x1_1_1_2 ∗ cs c inb_S2x2x8_S1x1x1_1_1_3 ∗ cs c inb_S2x2x8_S1x1x1_1_1_4 ∗ cs c inb_S2x2x8_S1x1x1_1_1_5 ∗ cs c inb_S2x2x8_S1x1x1_1_1_6 ∗ cs c inb_S2x2x8_S1x1x1_1_1_7)

theorem dev1_eq (c : Dev nD) : (⟨k0_dev1 c, k0_dev1_lt c⟩ : Dev nD) = nb c 1 := Fin.ext (k0_dev1_eq c)
theorem dev2_eq (c : Dev nD) : (⟨k0_dev2 c, k0_dev2_lt c⟩ : Dev nD) = nb c 2 := Fin.ext (k0_dev2_eq c)
theorem dev3_eq (c : Dev nD) : (⟨k0_dev3 c, k0_dev3_lt c⟩ : Dev nD) = nb c 3 := Fin.ext (k0_dev3_eq c)
theorem dev4_eq (c : Dev nD) : (⟨k0_dev4 c, k0_dev4_lt c⟩ : Dev nD) = nb c 4 := Fin.ext (k0_dev4_eq c)
theorem dev5_eq (c : Dev nD) : (⟨k0_dev5 c, k0_dev5_lt c⟩ : Dev nD) = nb c 5 := Fin.ext (k0_dev5_eq c)
theorem dev6_eq (c : Dev nD) : (⟨k0_dev6 c, k0_dev6_lt c⟩ : Dev nD) = nb c 6 := Fin.ext (k0_dev6_eq c)
theorem dev7_eq (c : Dev nD) : (⟨k0_dev7 c, k0_dev7_lt c⟩ : Dev nD) = nb c 7 := Fin.ext (k0_dev7_eq c)

/-- What a device holds for the exchange: its right to take part, and for every other device the token and the slots it
lends. -/
def protPre (c : Dev nD) : sProp (MM F) :=
  iprop(levAts L lv ∗ cred (tallyAt (barCell c) true 7) ∗ atPos ER (barCell c) 0 ∅ 0
    ∗ seven (fun o => iprop(dutyTok ER (barCell (nb c o)) 0 c ∗ lent (F := F) c o)) ∗ seven (fun o => payTok (F := F) c o)
    ∗ seven (fun o => recvCr (F := F) c o) ∗ seven (fun o => recvPos (F := F) c o) ∗ seven (fun o => sendPos (F := F) c o))

/-- A rule's four premises, one at a time. -/
theorem wands4 {A B C D R : sProp (MM F)} (h : iprop(A ∗ B ∗ C ∗ D) ⊢ R) : A ⊢ iprop(B -∗ C -∗ D -∗ R) := by
  iintro HA HB HC HD; iapply h $$ [HA HB HC HD]
  isplitl [HA]; · iexact HA
  isplitl [HB]; · iexact HB
  isplitl [HC]; · iexact HC
  iexact HD
/-- A rule's five premises, one at a time. -/
theorem wands5 {A B C D E R : sProp (MM F)} (h : iprop(A ∗ B ∗ C ∗ D ∗ E) ⊢ R) : A ⊢ iprop(B -∗ C -∗ D -∗ E -∗ R) := by
  iintro HA HB HC HD HE; iapply h $$ [HA HB HC HD HE]
  isplitl [HA]; · iexact HA
  isplitl [HB]; · iexact HB
  isplitl [HC]; · iexact HC
  isplitl [HD]; · iexact HD
  iexact HE

/-- What a device stores in its own slots, with the run that stores it. -/
def run (c : Dev nD) (f1 f2 f6 f7 fl fq fb) :
    (o : FVec F S1x8x8x128 .f32) ×' { m : FVec F S1x2x8x8 .f32 //
      ∀ (gO : CO F) (gM : CM F) (K : Dev nD × KC → ℕ) (W : Waits sig Bool) (Q : PUnit → sProp (MM F)),
        (∀ f, ∀ i ∈ oSet c, ((Memref.whole cc0_scratch3).access (Rect.unit (s := S8x8x8x128) (k0_off1 c) S1x8x8x128.size (k0_off1_inb c))).write (Elt F) f o Finset.univ i = gO i) →
        (∀ f, ∀ i ∈ mSet c, ((Memref.whole cc0_scratch4).access (Rect.unit (s := S8x2x8x8) (k0_off2 c) S1x2x8x8.size (k0_off2_inb c))).write (Elt F) f m Finset.univ i = gM i) →
        iprop(pt c main_arg1 f1 ∗ pt c main_arg2 f2 ∗ pt c cc0_scratch0 f6 ∗ pt c cc0_scratch1 f7 ∗ pt c cc0_stg0_0 fl ∗ pt c cc0_stg1_0 fq ∗ pt c cc0_stg2_0 fb
            ∗ (∃ f, pt c cc0_stg3_0 f) ∗ (∃ f, ptO (F := F) c c fullShare f) ∗ (∃ f, ptM (F := F) c c fullShare f)
            ∗ copySems c ∗ owes (c.tc : Thread nD τ) (owedB c [1, 2, 3, 4, 5, 6, 7]) W ∗ Transfers.MayWaits (c.tc : Thread nD τ) false (owedR c sendList)
            ∗ records gO gM K ∗ protPre c)
          ⊢ iprop(((pt c main_arg1 f1 ∗ pt c main_arg2 f2 ∗ (∃ f, pt c cc0_scratch0 f) ∗ (∃ f, pt c cc0_scratch1 f) ∗ pt c cc0_stg0_0 fl ∗ pt c cc0_stg1_0 fq ∗ pt c cc0_stg2_0 fb
              ∗ pt c cc0_stg3_0 (result gO gM) ∗ pt c cc0_scratch3 gO ∗ pt c cc0_scratch4 gM
              ∗ copySems c ∗ (∃ W, owes (c.tc : Thread nD τ) 0 W) ∗ semVal (barCell c) 0
              ∗ seven (fun o => recvZ (F := F) c o) ∗ seven (fun o => sendZ (F := F) c o)) -∗ Q ⟨⟩)
            -∗ wp frame (wpE (defs₀ (F := F)) Variants.none c.tc none) Set.univ
     (cc0__body (Memref.whole cc0_stg0_0) (Memref.isWhole_whole _) (Memref.whole cc0_stg1_0) (Memref.isWhole_whole _) (Memref.whole main_arg1) (Memref.isWhole_whole _) (Memref.whole main_arg2) (Memref.isWhole_whole _)
      (Memref.whole cc0_stg2_0) (Memref.isWhole_whole _) (Memref.whole cc0_stg3_0) (Memref.isWhole_whole _) (Memref.whole cc0_scratch0) (Memref.isWhole_whole _) (Memref.whole cc0_scratch1) (Memref.isWhole_whole _)
      cc0_scratch2 (Memref.whole cc0_scratch3) (Memref.isWhole_whole _) (Memref.whole cc0_scratch4) (Memref.isWhole_whole _) cc0_scratch5 cc0_scratch6) Q) } := by
  -- the two payloads are metavariables until the rest of the run, taken as `wp_tail`, assigns them
  -- the two payloads are metavariables until the rest of the run, taken as `wp_tail`, assigns them
  apply PSigma.mk
  case snd =>
    apply Subtype.mk
    intro gO gM K W Q hO hM
    unfold protPre
    iintro ⟨HK, HV, Hkb, Hvb, Hl, Hq, Hb, Hout, HsO, HsM, ⟨S000, S001, S002, S003, S004, S005, S006, S007, S010, S011, S012, S013, S014, S015, S016, S017, S100, S101, S102, S103, S104, S105, S106, S107, S110, S111, S112, S113, S114, S115, S116, S117⟩, HO, #HMW, #HR, #Hlev, Hcb, Hab,
      ⟨⟨HT1, HL1⟩, ⟨HT2, HL2⟩, ⟨HT3, HL3⟩, ⟨HT4, HL4⟩, ⟨HT5, HL5⟩, ⟨HT6, HL6⟩, ⟨HT7, HL7⟩⟩, HPT, HRC, HRP, HSP⟩ Hk
    rw [cc0__body_eq_skeleton]; unfold cc0__body_skel
    set_option sl_exec.dmaWindow true in
    sl_exec_parts
    iapply wands4 (wp_sig gO gM K c _ 1 (by decide) (dev1_eq c) [2, 3, 4, 5, 6, 7] W rfl) $$ HR HO HT1 HL1
    iintro HO
    set_option sl_exec.dmaWindow true in
    sl_exec_parts
    iapply wands4 (wp_sig gO gM K c _ 2 (by decide) (dev2_eq c) [3, 4, 5, 6, 7] W rfl) $$ HR HO HT2 HL2
    iintro HO
    set_option sl_exec.dmaWindow true in
    sl_exec_parts
    iapply wands4 (wp_sig gO gM K c _ 3 (by decide) (dev3_eq c) [4, 5, 6, 7] W rfl) $$ HR HO HT3 HL3
    iintro HO
    set_option sl_exec.dmaWindow true in
    sl_exec_parts
    iapply wands4 (wp_sig gO gM K c _ 4 (by decide) (dev4_eq c) [5, 6, 7] W rfl) $$ HR HO HT4 HL4
    iintro HO
    set_option sl_exec.dmaWindow true in
    sl_exec_parts
    iapply wands4 (wp_sig gO gM K c _ 5 (by decide) (dev5_eq c) [6, 7] W rfl) $$ HR HO HT5 HL5
    iintro HO
    set_option sl_exec.dmaWindow true in
    sl_exec_parts
    iapply wands4 (wp_sig gO gM K c _ 6 (by decide) (dev6_eq c) [7] W rfl) $$ HR HO HT6 HL6
    iintro HO
    set_option sl_exec.dmaWindow true in
    sl_exec_parts
    iapply wands4 (wp_sig gO gM K c _ 7 (by decide) (dev7_eq c) [] W rfl) $$ HR HO HT7 HL7
    iintro HO
    set_option sl_exec.dmaWindow true in
    sl_exec_parts
    rw [show owedB c [] = owedR c sendList from rfl]
    iapply wands5 (wp_barwait gO gM K c W rfl) $$ HR Hlev Hcb HO Hab
    iintro ⟨HO, HB, HvB⟩
    set_option sl_exec.dmaWindow true in
    set_option sl_exec.stopBefore "k0_part71" in
    set_option sl_exec.resultNames true in
    sl_exec_parts
    iapply (wp_tail gO gM K c _ _ _ _ _ _ _ _ _ _ _ _ _ _ _ _ _ _ _ _ _ _ _ _ _ _ _ _ _ _ _ ?hO ?hM _ Q) $$ [HO HsO HsM Hout HB HPT HRC HRP HSP]
    case hO => exact hO
    case hM => exact hM
    · isplitr; · iexact HR
      isplitl [HO]; · iexact HO
      isplitl [HsO]; · iexact HsO
      isplitl [HsM]; · iexact HsM
      isplitl [Hout]; · iexact Hout
      isplitl [HB]; · iexact HB
      isplitl [HPT]; · iexact HPT
      isplitl [HRC]; · iexact HRC
      isplitl [HRP]; · iexact HRP
      iexact HSP
    iintro ⟨HO, HgO, HgM, Hout, HvR, HvS⟩
    iapply Hk
    isplitl [HK]; · iexact HK
    isplitl [HV]; · iexact HV
    isplitl [Hkb]; · iexists _; iexact Hkb
    isplitl [Hvb]; · iexists _; iexact Hvb
    isplitl [Hl]; · iexact Hl
    isplitl [Hq]; · iexact Hq
    isplitl [Hb]; · iexact Hb
    isplitl [Hout]; · iexact Hout
    isplitl [HgO]; · iexact HgO
    isplitl [HgM]; · iexact HgM
    isplitl [S000 S001 S002 S003 S004 S005 S006 S007 S010 S011 S012 S013 S014 S015 S016 S017 S100 S101 S102 S103 S104 S105 S106 S107 S110 S111 S112 S113 S114 S115 S116 S117]
    · isplitl [S000]; · iexact S000
      isplitl [S001]; · iexact S001
      isplitl [S002]; · iexact S002
      isplitl [S003]; · iexact S003
      isplitl [S004]; · iexact S004
      isplitl [S005]; · iexact S005
      isplitl [S006]; · iexact S006
      isplitl [S007]; · iexact S007
      isplitl [S010]; · iexact S010
      isplitl [S011]; · iexact S011
      isplitl [S012]; · iexact S012
      isplitl [S013]; · iexact S013
      isplitl [S014]; · iexact S014
      isplitl [S015]; · iexact S015
      isplitl [S016]; · iexact S016
      isplitl [S017]; · iexact S017
      isplitl [S100]; · iexact S100
      isplitl [S101]; · iexact S101
      isplitl [S102]; · iexact S102
      isplitl [S103]; · iexact S103
      isplitl [S104]; · iexact S104
      isplitl [S105]; · iexact S105
      isplitl [S106]; · iexact S106
      isplitl [S107]; · iexact S107
      isplitl [S110]; · iexact S110
      isplitl [S111]; · iexact S111
      isplitl [S112]; · iexact S112
      isplitl [S113]; · iexact S113
      isplitl [S114]; · iexact S114
      isplitl [S115]; · iexact S115
      isplitl [S116]; · iexact S116
      iexact S117
    isplitl [HO]; · iexact HO
    isplitl [HvB]; · iexact HvB
    isplitl [HvR]; · iexact HvR
    iexact HvS

end Cert.Paged

end
-- ==== Proof.Reads.lean ====
module

public import proofs.«01_k».proof.Proof.Run
public import Idealize.ShloMosaic.Lib.ValueLayout
public import Idealize.ShloMosaic.Lib.ViewIndex

@[expose] public section

noncomputable section

/-!
# What the page copies leave for the loads

The pages of one chunk are copied head by head into one of two buffers. A load of one head's pages reads what the last
copy into that place left, and neither earlier copies nor the buffer's first contents.
-/

namespace Cert.Paged

open Cert.KernelIdeal Cert.KernelIdeal.Gen

open Idealize.ShloMosaic
open Idealize.ShloMosaic.TcCoe
open Idealize.ShloMosaic.ValueIdx

variable {F : FTy → Type} [FloatOps F] [Named F]

/-- The pages of chunk `ch` and head `h`, of a device's pages `f`. -/
def pages (f : S512x16x8x128.Idx → Elt F .f32) (ch : Fin 4) (h : Fin 8) : Vec F S1x1x128x16x128 .f32 :=
  fun y => f (ix4 (n0 := 512) (n1 := 16) (n2 := 8) (n3 := 128) ⟨128 * ch.val + (y 2).val, by have := (y 2).isLt; have := ch.isLt; have e : S1x1x128x16x128.size 2 = 128 := rfl; omega⟩ (y 3) h (y 4))

/-- The place of one head's pages in a page buffer, as a copy writes it. -/
abbrev slotOf (m : Memref sig .tc .vmem S2x8x128x16x128 .f32) (off : Fin 5 → ℕ) (h : ∀ a, off a + S1x1x128x16x128.size a ≤ S2x8x128x16x128.size a) : View sig .tc .vmem S128x16x128 .f32 :=
  ((m.slice (Rect.unit (s := S2x8x128x16x128) off S1x1x128x16x128.size h) (fun _ => rfl)).squeeze S128x16x128 squeezes_S1x1x128x16x128_S128x16x128).view

omit [FloatOps F] [Named F] in
/-- A load of the place just copied into reads the copy. -/
theorem read_hit (m : Memref sig .tc .vmem S2x8x128x16x128 .f32) (off : Fin 5 → ℕ) (h) (hx) (f : m.view.ty.Contents (Elt F)) (w : S128x16x128.Idx → Elt F .f32) :
    m.view.readAt (Elt F) (Rect.unit (s := S2x8x128x16x128) off S1x1x128x16x128.size h).toLoadRect ((slotOf m off hx).write (Elt F) f w Finset.univ)
      = fun y => w (ix3 (n0 := 128) (n1 := 16) (n2 := 128) (y 2) (y 3) (y 4)) := by
  funext y
  have e : Shape.reshapeEquiv (s := S1x1x128x16x128) (s' := S128x16x128) squeezes_S1x1x128x16x128_S128x16x128.numel_eq (ix3 (n0 := 128) (n1 := 16) (n2 := 128) (y 2) (y 3) (y 4)) = y := by
    refine (reshapeEquiv_ix3_11abc _ _ _ _).trans (funext fun a => ?_)
    match a with
    | ⟨0, _⟩ => exact Subsingleton.elim (α := Fin 1) _ _
    | ⟨1, _⟩ => exact Subsingleton.elim (α := Fin 1) _ _
    | ⟨2, _⟩ => rfl
    | ⟨3, _⟩ => rfl
    | ⟨4, _⟩ => rfl
  have r := View.read_write_reshape (Val := Elt F) (m.view.slice (Rect.unit (s := S2x8x128x16x128) off S1x1x128x16x128.size hx)) (s' := S128x16x128) squeezes_S1x1x128x16x128_S128x16x128.numel_eq f w
    (ix3 (n0 := 128) (n1 := 16) (n2 := 128) (y 2) (y 3) (y 4))
  rw [e] at r
  exact r

omit [FloatOps F] [Named F] in
/-- A load of another place than the one copied into reads what was there before. -/
theorem read_miss (m : Memref sig .tc .vmem S2x8x128x16x128 .f32) (off off' : Fin 5 → ℕ) (h) (hx) (f : m.view.ty.Contents (Elt F)) (w : S128x16x128.Idx → Elt F .f32)
    (hne : off 0 ≠ off' 0 ∨ off 1 ≠ off' 1) :
    m.view.readAt (Elt F) (Rect.unit (s := S2x8x128x16x128) off S1x1x128x16x128.size h).toLoadRect ((slotOf m off' hx).write (Elt F) f w Finset.univ)
      = m.view.readAt (Elt F) (Rect.unit (s := S2x8x128x16x128) off S1x1x128x16x128.size h).toLoadRect f := by
  refine View.readAt_congr fun i hi => View.write_of_not_mem _ _ _ fun hm => ?_
  have hd : Disjoint (m.view.slice (Rect.unit (s := S2x8x128x16x128) off S1x1x128x16x128.size h)).set
      (m.view.slice (Rect.unit (s := S2x8x128x16x128) off' S1x1x128x16x128.size hx)).set := by
    refine View.disjoint_slice (Finset.disjoint_left.mpr fun j hj hj' => ?_)
    rw [Rect.mem_set_unit] at hj hj'
    have a0 := hj 0; have a1 := hj 1; have b0 := hj' 0; have b1 := hj' 1
    have e0 : S1x1x128x16x128.size 0 = 1 := rfl
    have e1 : S1x1x128x16x128.size 1 = 1 := rfl
    rw [e0] at a0 b0; rw [e1] at a1 b1
    omega
  refine (Finset.disjoint_left.mp hd : ∀ ⦃a⦄, _ → ¬ _) (a := i) ?_ ?_
  · rw [View.set_slice]; exact hi
  · exact (View.set_reshape (m.view.slice (Rect.unit (s := S2x8x128x16x128) off' S1x1x128x16x128.size hx)) squeezes_S1x1x128x16x128_S128x16x128.numel_eq) ▸ hm

omit [FloatOps F] [Named F] in
/-- What a copy brings: the pages of the chunk and head it is taken from. -/
theorem copied (m : Memref sig .tc .hbm S512x16x8x128 .f32) (f : m.view.ty.Contents (Elt F)) (g : S512x16x8x128.Idx → Elt F .f32) (hg : m.view.read (Elt F) f = g)
    (off : Fin 4 → ℕ) (h) (ch : Fin 4) (hd : Fin 8) (e : off = ![128 * ch.val, 0, hd.val, 0]) :
    (fun y : S1x1x128x16x128.Idx => ReadAs.same.apply (View.read (Elt F) ((m.slice (Rect.unit (s := S512x16x8x128) off S128x16x1x128.size h) (fun _ => rfl)).squeeze S128x16x128 squeezes_S128x16x1x128_S128x16x128).view f)
        (ix3 (n0 := 128) (n1 := 16) (n2 := 128) (y 2) (y 3) (y 4))) = pages g ch hd := by
  subst e; subst hg
  funext y
  have e : Shape.reshapeEquiv (s := S128x16x1x128) (s' := S128x16x128) squeezes_S128x16x1x128_S128x16x128.numel_eq (ix3 (n0 := 128) (n1 := 16) (n2 := 128) (y 2) (y 3) (y 4))
      = ix4 (n0 := 128) (n1 := 16) (n2 := 1) (n3 := 128) (y 2) (y 3) 0 (y 4) :=
    Shape.reshapeEquiv_eq_of_rowMajor _ (by
      rw [Shape.rowMajor_val_four, Shape.rowMajor_val_three]
      show (((y 2).val * 16 + (y 3).val) * 1 + 0) * 128 + (y 4).val = ((y 2).val * 16 + (y 3).val) * 128 + (y 4).val
      omega)
  show m.view.read (Elt F) f ((Rect.unit (s := S512x16x8x128) ![128 * ch.val, 0, hd.val, 0] S128x16x1x128.size h).emb (Shape.reshapeEquiv (s := S128x16x1x128) (s' := S128x16x128) squeezes_S128x16x1x128_S128x16x128.numel_eq
    (ix3 (n0 := 128) (n1 := 16) (n2 := 128) (y 2) (y 3) (y 4)))) = m.view.read (Elt F) f _
  rw [e]
  refine congrArg _ (funext fun a => Fin.ext ?_)
  match a with
  | ⟨0, _⟩ => show 128 * ch.val + 1 * (y 2).val = 128 * ch.val + (y 2).val; omega
  | ⟨1, _⟩ => show 0 + 1 * (y 3).val = (y 3).val; omega
  | ⟨2, _⟩ => show hd.val + 1 * 0 = hd.val; omega
  | ⟨3, _⟩ => show 0 + 1 * (y 4).val = (y 4).val; omega

/-- The loads of keys, chunk by chunk and head by head. -/
theorem loads_k (c : Dev nD) (f1 : Buf (Elt F) ((Memref.whole main_arg1).view.loc (c.tc : Thread nD τ))) (f6 : Buf (Elt F) ((Memref.whole cc0_scratch0).view.loc (c.tc : Thread nD τ))) :
    run.sl.v485 c f1 f6 = pages f1 0 0
    ∧ run.sl.v505 c f1 f6 = pages f1 0 1
    ∧ run.sl.v525 c f1 f6 = pages f1 0 2
    ∧ run.sl.v545 c f1 f6 = pages f1 0 3
    ∧ run.sl.v565 c f1 f6 = pages f1 0 4
    ∧ run.sl.v585 c f1 f6 = pages f1 0 5
    ∧ run.sl.v605 c f1 f6 = pages f1 0 6
    ∧ run.sl.v625 c f1 f6 = pages f1 0 7
    ∧ run.sl.v839 c f1 f6 = pages f1 1 0
    ∧ run.sl.v859 c f1 f6 = pages f1 1 1
    ∧ run.sl.v879 c f1 f6 = pages f1 1 2
    ∧ run.sl.v899 c f1 f6 = pages f1 1 3
    ∧ run.sl.v919 c f1 f6 = pages f1 1 4
    ∧ run.sl.v939 c f1 f6 = pages f1 1 5
    ∧ run.sl.v959 c f1 f6 = pages f1 1 6
    ∧ run.sl.v979 c f1 f6 = pages f1 1 7
    ∧ run.sl.v1193 c f1 f6 = pages f1 2 0
    ∧ run.sl.v1213 c f1 f6 = pages f1 2 1
    ∧ run.sl.v1233 c f1 f6 = pages f1 2 2
    ∧ run.sl.v1253 c f1 f6 = pages f1 2 3
    ∧ run.sl.v1273 c f1 f6 = pages f1 2 4
    ∧ run.sl.v1293 c f1 f6 = pages f1 2 5
    ∧ run.sl.v1313 c f1 f6 = pages f1 2 6
    ∧ run.sl.v1333 c f1 f6 = pages f1 2 7
    ∧ run.sl.v1451 c f1 f6 = pages f1 3 0
    ∧ run.sl.v1471 c f1 f6 = pages f1 3 1
    ∧ run.sl.v1491 c f1 f6 = pages f1 3 2
    ∧ run.sl.v1511 c f1 f6 = pages f1 3 3
    ∧ run.sl.v1531 c f1 f6 = pages f1 3 4
    ∧ run.sl.v1551 c f1 f6 = pages f1 3 5
    ∧ run.sl.v1571 c f1 f6 = pages f1 3 6
    ∧ run.sl.v1591 c f1 f6 = pages f1 3 7 := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
  · first
      | unfold run.sl.v485
      | unfold run.sl.v505
      | unfold run.sl.v525
      | unfold run.sl.v545
      | unfold run.sl.v565
      | unfold run.sl.v585
      | unfold run.sl.v605
      | unfold run.sl.v625
      | unfold run.sl.v839
      | unfold run.sl.v859
      | unfold run.sl.v879
      | unfold run.sl.v899
      | unfold run.sl.v919
      | unfold run.sl.v939
      | unfold run.sl.v959
      | unfold run.sl.v979
      | unfold run.sl.v1193
      | unfold run.sl.v1213
      | unfold run.sl.v1233
      | unfold run.sl.v1253
      | unfold run.sl.v1273
      | unfold run.sl.v1293
      | unfold run.sl.v1313
      | unfold run.sl.v1333
      | unfold run.sl.v1451
      | unfold run.sl.v1471
      | unfold run.sl.v1491
      | unfold run.sl.v1511
      | unfold run.sl.v1531
      | unfold run.sl.v1551
      | unfold run.sl.v1571
      | unfold run.sl.v1591
    repeat (refine Eq.trans (read_miss (Memref.whole cc0_scratch0) _ _ _ _ _ _ ?_) ?_; · decide)
    refine Eq.trans (read_hit (Memref.whole cc0_scratch0) _ _ _ _ _) ?_
    exact copied (Memref.whole main_arg1) f1 f1 rfl _ _ _ _ (by decide)

/-- The loads of values, chunk by chunk and head by head. -/
theorem loads_v (c : Dev nD) (f2 : Buf (Elt F) ((Memref.whole main_arg2).view.loc (c.tc : Thread nD τ))) (f7 : Buf (Elt F) ((Memref.whole cc0_scratch1).view.loc (c.tc : Thread nD τ))) :
    run.sl.v499 c f2 f7 = pages f2 0 0
    ∧ run.sl.v519 c f2 f7 = pages f2 0 1
    ∧ run.sl.v539 c f2 f7 = pages f2 0 2
    ∧ run.sl.v559 c f2 f7 = pages f2 0 3
    ∧ run.sl.v579 c f2 f7 = pages f2 0 4
    ∧ run.sl.v599 c f2 f7 = pages f2 0 5
    ∧ run.sl.v619 c f2 f7 = pages f2 0 6
    ∧ run.sl.v639 c f2 f7 = pages f2 0 7
    ∧ run.sl.v853 c f2 f7 = pages f2 1 0
    ∧ run.sl.v873 c f2 f7 = pages f2 1 1
    ∧ run.sl.v893 c f2 f7 = pages f2 1 2
    ∧ run.sl.v913 c f2 f7 = pages f2 1 3
    ∧ run.sl.v933 c f2 f7 = pages f2 1 4
    ∧ run.sl.v953 c f2 f7 = pages f2 1 5
    ∧ run.sl.v973 c f2 f7 = pages f2 1 6
    ∧ run.sl.v993 c f2 f7 = pages f2 1 7
    ∧ run.sl.v1207 c f2 f7 = pages f2 2 0
    ∧ run.sl.v1227 c f2 f7 = pages f2 2 1
    ∧ run.sl.v1247 c f2 f7 = pages f2 2 2
    ∧ run.sl.v1267 c f2 f7 = pages f2 2 3
    ∧ run.sl.v1287 c f2 f7 = pages f2 2 4
    ∧ run.sl.v1307 c f2 f7 = pages f2 2 5
    ∧ run.sl.v1327 c f2 f7 = pages f2 2 6
    ∧ run.sl.v1347 c f2 f7 = pages f2 2 7
    ∧ run.sl.v1465 c f2 f7 = pages f2 3 0
    ∧ run.sl.v1485 c f2 f7 = pages f2 3 1
    ∧ run.sl.v1505 c f2 f7 = pages f2 3 2
    ∧ run.sl.v1525 c f2 f7 = pages f2 3 3
    ∧ run.sl.v1545 c f2 f7 = pages f2 3 4
    ∧ run.sl.v1565 c f2 f7 = pages f2 3 5
    ∧ run.sl.v1585 c f2 f7 = pages f2 3 6
    ∧ run.sl.v1605 c f2 f7 = pages f2 3 7 := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
  · first
      | unfold run.sl.v499
      | unfold run.sl.v519
      | unfold run.sl.v539
      | unfold run.sl.v559
      | unfold run.sl.v579
      | unfold run.sl.v599
      | unfold run.sl.v619
      | unfold run.sl.v639
      | unfold run.sl.v853
      | unfold run.sl.v873
      | unfold run.sl.v893
      | unfold run.sl.v913
      | unfold run.sl.v933
      | unfold run.sl.v953
      | unfold run.sl.v973
      | unfold run.sl.v993
      | unfold run.sl.v1207
      | unfold run.sl.v1227
      | unfold run.sl.v1247
      | unfold run.sl.v1267
      | unfold run.sl.v1287
      | unfold run.sl.v1307
      | unfold run.sl.v1327
      | unfold run.sl.v1347
      | unfold run.sl.v1465
      | unfold run.sl.v1485
      | unfold run.sl.v1505
      | unfold run.sl.v1525
      | unfold run.sl.v1545
      | unfold run.sl.v1565
      | unfold run.sl.v1585
      | unfold run.sl.v1605
    repeat (refine Eq.trans (read_miss (Memref.whole cc0_scratch1) _ _ _ _ _ _ ?_) ?_; · decide)
    refine Eq.trans (read_hit (Memref.whole cc0_scratch1) _ _ _ _ _) ?_
    exact copied (Memref.whole main_arg2) f2 f2 rfl _ _ _ _ (by decide)

end Cert.Paged

end
-- ==== Proof.Clean.lean ====
module

public import proofs.«01_k».proof.Proof.Reads

@[expose] public section

set_option maxHeartbeats 8000000

noncomputable section

/-!
# What one device computes from its pages

The numbers one device adds to the gather: for each head and each chunk of pages, the largest score, the sum of the
weights and the weighted sum of the values; then for each head the four chunks brought to one largest score. The
definitions here name the device's arrays only, and the run's stored values are shown equal to them.
-/

namespace Cert.Paged

open Cert.KernelIdeal Cert.KernelIdeal.Gen

open Idealize.ShloMosaic
open Idealize.ShloMosaic.TcCoe
open Idealize.ShloMosaic.ValueIdx

variable {F : FTy → Type} [FloatOps F] [Named F]

/-- The query of head `h`, for every row of the batch. -/
def qRow (fq : S8x1x8x128.Idx → Elt F .f32) (h : Fin 8) : Vec F S8x1x1x128 .f32 :=
  fun y => fq (ix4 (n0 := 8) (n1 := 1) (n2 := 8) (n3 := 128) (y 0) (y 1) h (y 3))

/-- The number of pages of row `b`. -/
def lenAt (fl : S8.Idx → Elt F .i32) (b : Fin 8) : Elt F .i32 := fl (ix1 (n := 8) b)

/-- The block table of row `b`. -/
def btRow (fb : S8x512.Idx → Elt F .i32) (b : Fin 8) : Vec F S1x512 .i32 :=
  fun y => fb (ix2 (n0 := 8) (n1 := 512) b (y 1))

/-- How often each page of the device whose first page is `base` stands in the live part of one row's block table. -/
def cntCol (base : BitVec 32) (ln : Elt F .i32) (row : Vec F S1x512 .i32) : FVec F S512x1 .f32 :=
  shapeCast S512x1 (multiReduction .add [1] S512
    (sitofp .f32 (extui 32 (cmpi .eq
      (broadcastTo S512x512 (select (cmpi .slt (iota .tc S1x512 32 [1] iota_S1x512_d1_w32) (broadcast S1x512 ln))
        (shapeCast S1x512 row shapeCasts_S1x512_S1x512) (broadcast S1x512 4294967295#32)) broadcasts_S1x512_S512x512)
      (addi (iota .tc S512x512 32 [0] iota_S512x512_d0_w32) (broadcast S512x512 base))) natLt_1_32))
    0x00000000#32 reduces_S512x512_S512 (.inl rfl) rfl) shapeCasts_S512_S512x1

/-- The counts of every row, one row of the table for each row of the batch. -/
def cntT (col : Fin 8 → FVec F S512x1 .f32) : FVec F S8x512 .f32 :=
  transpose S8x512 [1, 0] (concatenate S512x8 1 [⟨S512x1, col 0⟩, ⟨S512x1, col 1⟩, ⟨S512x1, col 2⟩, ⟨S512x1, col 3⟩,
    ⟨S512x1, col 4⟩, ⟨S512x1, col 5⟩, ⟨S512x1, col 6⟩, ⟨S512x1, col 7⟩]
    concatenates_S512x1_S512x1_S512x1_S512x1_S512x1_S512x1_S512x1_S512x1_S512x8_d1) transposes_S512x8_p1_0_S8x512

/-- The first page of device `c`. -/
def baseOf (c : Dev nD) : BitVec 32 := run.sl.v128 c

/-- The counts of device `c`'s pages. -/
def cntOf (c : Dev nD) (fl : S8.Idx → Elt F .i32) (fb : S8x512.Idx → Elt F .i32) : FVec F S8x512 .f32 :=
  cntT fun b => cntCol (baseOf c) (lenAt fl b) (btRow fb b)

omit [FloatOps F] [Named F] in
theorem slicesC (ch : Fin 4) : S8x512.Slices ![0, 128 * ch.val] S8x128 := by
  revert ch; decide

/-- The counts of the pages of chunk `ch`, one number for each token. -/
def cntC (cnt : FVec F S8x512 .f32) (ch : Fin 4) : FVec F S8x2048 .f32 :=
  matmul dot_S8x128_S128x2048_S8x2048_1_0_0_1_n_n none (extractStridedSlice S8x128 ![0, 128 * ch.val] cnt (slicesC ch)) k0_pay14
    (constant S8x2048 .f32 0x00000000#32)

/-- The scores of one head's query against the tokens of one chunk. -/
def sOf (q : Vec F S8x1x1x128 .f32) (k : Vec F S1x1x128x16x128 .f32) : FVec F S8x2048 .f32 :=
  mulf (matmul dot_S8x128_S2048x128_S8x2048_1_1_0_0_n_n none (shapeCast S8x128 q shapeCasts_S8x1x1x128_S8x128)
    (shapeCast S2048x128 (shapeCast S128x16x128 k shapeCasts_S1x1x128x16x128_S128x16x128) shapeCasts_S128x16x128_S2048x128)
    (constant S8x2048 .f32 0x00000000#32)) (broadcast S8x2048 (Named.named (F := F) Cert.KernelIdeal.κ "scale" (φ := .f32) 0x3DB504F3#32))

/-- The largest score of a chunk. -/
def mOf (q : Vec F S8x1x1x128 .f32) (k : Vec F S1x1x128x16x128 .f32) : FVec F S8x1 .f32 :=
  shapeCast S8x1 (multiReduction .maximumf [1] S8 (sOf q k) 0xFF800000#32 reduces_S8x2048_S8 (.inl rfl) rfl) shapeCasts_S8_S8x1

/-- The weights of a chunk's tokens. -/
def wOf (cnt : FVec F S8x2048 .f32) (q : Vec F S8x1x1x128 .f32) (k : Vec F S1x1x128x16x128 .f32) : FVec F S8x2048 .f32 :=
  mulf cnt (exp (subf (sOf q k) (broadcastTo S8x2048 (mOf q k) broadcasts_S8x1_S8x2048)))

/-- The sum of a chunk's weights. -/
def lOf (cnt : FVec F S8x2048 .f32) (q : Vec F S8x1x1x128 .f32) (k : Vec F S1x1x128x16x128 .f32) : FVec F S8x1 .f32 :=
  shapeCast S8x1 (multiReduction .add [1] S8 (wOf cnt q k) 0x00000000#32 reduces_S8x2048_S8 (.inl rfl) rfl) shapeCasts_S8_S8x1

/-- The weighted sum of a chunk's values. -/
def oOf (cnt : FVec F S8x2048 .f32) (q : Vec F S8x1x1x128 .f32) (k v : Vec F S1x1x128x16x128 .f32) : FVec F S8x128 .f32 :=
  matmul dot_S8x2048_S2048x128_S8x128_1_0_0_1_n_n none (wOf cnt q k)
    (shapeCast S2048x128 (shapeCast S128x16x128 v shapeCasts_S1x1x128x16x128_S128x16x128) shapeCasts_S128x16x128_S2048x128)
    (constant S8x128 .f32 0x00000000#32)

/-- Four columns side by side. -/
def cat4 (x : Fin 4 → FVec F S8x1 .f32) : FVec F S8x4 .f32 :=
  concatenate S8x4 1 [⟨S8x1, x 0⟩, ⟨S8x1, x 1⟩, ⟨S8x1, x 2⟩, ⟨S8x1, x 3⟩] concatenates_S8x1_S8x1_S8x1_S8x1_S8x4_d1

/-- The largest score of a head over its four chunks. -/
def mHead (m : Fin 4 → FVec F S8x1 .f32) : FVec F S8x1 .f32 :=
  shapeCast S8x1 (multiReduction .maximumf [1] S8 (cat4 m) 0xFF800000#32 reduces_S8x4_S8 (.inl rfl) rfl) shapeCasts_S8_S8x1

/-- What brings each chunk to the head's largest score. -/
def scHead (m : Fin 4 → FVec F S8x1 .f32) : FVec F S8x4 .f32 :=
  exp (subf (cat4 m) (broadcastTo S8x4 (mHead m) broadcasts_S8x1_S8x4))

/-- The sum of a head's weights. -/
def lHead (m l : Fin 4 → FVec F S8x1 .f32) : FVec F S8x1 .f32 :=
  shapeCast S8x1 (multiReduction .add [1] S8 (mulf (cat4 l) (scHead m)) 0x00000000#32 reduces_S8x4_S8 (.inl rfl) rfl) shapeCasts_S8_S8x1

omit [FloatOps F] [Named F] in
theorem slicesH (ch : Fin 4) : S8x4.Slices ![0, ch.val] S8x1 := by
  revert ch; decide

/-- One chunk's weighted sum, brought to the head's largest score. -/
def oTerm (m : Fin 4 → FVec F S8x1 .f32) (o : Fin 4 → FVec F S8x128 .f32) (ch : Fin 4) : FVec F S8x128 .f32 :=
  mulf (o ch) (broadcastTo S8x128 (extractStridedSlice S8x1 ![0, ch.val] (scHead m) (slicesH ch)) broadcasts_S8x1_S8x128)

/-- The weighted sum of a head's values. -/
def oHead (m : Fin 4 → FVec F S8x1 .f32) (o : Fin 4 → FVec F S8x128 .f32) : FVec F S8x1x128 .f32 :=
  shapeCast S8x1x128 (addf (addf (addf (addf (broadcast S8x128 (Scalar.ofBits (F := F) .f32 0x00000000#32)) (oTerm m o 0)) (oTerm m o 1))
    (oTerm m o 2)) (oTerm m o 3)) shapeCasts_S8x128_S8x1x128

/-- What a device stores of its weighted sums. -/
def oAll (o : Fin 8 → FVec F S8x1x128 .f32) : FVec F S1x8x8x128 .f32 :=
  shapeCast S1x8x8x128 (shapeCast S1x8x8x128 (concatenate S8x8x128 1 [⟨S8x1x128, o 0⟩, ⟨S8x1x128, o 1⟩, ⟨S8x1x128, o 2⟩,
    ⟨S8x1x128, o 3⟩, ⟨S8x1x128, o 4⟩, ⟨S8x1x128, o 5⟩, ⟨S8x1x128, o 6⟩, ⟨S8x1x128, o 7⟩]
    concatenates_S8x1x128_S8x1x128_S8x1x128_S8x1x128_S8x1x128_S8x1x128_S8x1x128_S8x1x128_S8x8x128_d1) shapeCasts_S8x8x128_S1x8x8x128)
    shapeCasts_S1x8x8x128_S1x8x8x128

/-- Eight heads side by side. -/
def cat8 (x : Fin 8 → FVec F S8x1 .f32) : FVec F S8x8 .f32 :=
  concatenate S8x8 1 [⟨S8x1, x 0⟩, ⟨S8x1, x 1⟩, ⟨S8x1, x 2⟩, ⟨S8x1, x 3⟩, ⟨S8x1, x 4⟩, ⟨S8x1, x 5⟩, ⟨S8x1, x 6⟩, ⟨S8x1, x 7⟩]
    concatenates_S8x1_S8x1_S8x1_S8x1_S8x1_S8x1_S8x1_S8x1_S8x8_d1

/-- What a device stores of its largest scores and its sums of weights. -/
def mlAll (m l : Fin 8 → FVec F S8x1 .f32) : FVec F S1x2x8x8 .f32 :=
  shapeCast S1x2x8x8 (shapeCast S1x2x8x8 (concatenate S2x8x8 0 [⟨S1x8x8, shapeCast S1x8x8 (cat8 m) shapeCasts_S8x8_S1x8x8⟩,
    ⟨S1x8x8, shapeCast S1x8x8 (cat8 l) shapeCasts_S8x8_S1x8x8⟩] concatenates_S1x8x8_S1x8x8_S2x8x8_d0) shapeCasts_S2x8x8_S1x2x8x8)
    shapeCasts_S1x2x8x8_S1x2x8x8

/-- The largest scores of device pages `f1`, by chunk, of head `h`. -/
def mC (f1 : S512x16x8x128.Idx → Elt F .f32) (fq : S8x1x8x128.Idx → Elt F .f32) (h : Fin 8) (ch : Fin 4) : FVec F S8x1 .f32 :=
  mOf (qRow fq h) (pages f1 ch h)

/-- The sums of weights, by chunk, of head `h`. -/
def lC (cnt : FVec F S8x512 .f32) (f1 : S512x16x8x128.Idx → Elt F .f32) (fq : S8x1x8x128.Idx → Elt F .f32) (h : Fin 8) (ch : Fin 4) : FVec F S8x1 .f32 :=
  lOf (cntC cnt ch) (qRow fq h) (pages f1 ch h)

/-- The weighted sums of values, by chunk, of head `h`. -/
def oC (cnt : FVec F S8x512 .f32) (f1 f2 : S512x16x8x128.Idx → Elt F .f32) (fq : S8x1x8x128.Idx → Elt F .f32) (h : Fin 8) (ch : Fin 4) : FVec F S8x128 .f32 :=
  oOf (cntC cnt ch) (qRow fq h) (pages f1 ch h) (pages f2 ch h)

/-- The weighted sums device `c` stores. -/
def oPay (c : Dev nD) (f1 f2 : S512x16x8x128.Idx → Elt F .f32) (fl : S8.Idx → Elt F .i32) (fq : S8x1x8x128.Idx → Elt F .f32) (fb : S8x512.Idx → Elt F .i32) : FVec F S1x8x8x128 .f32 :=
  oAll fun h => oHead (mC f1 fq h) (oC (cntOf c fl fb) f1 f2 fq h)

/-- The largest scores and sums of weights device `c` stores. -/
def mlPay (c : Dev nD) (f1 : S512x16x8x128.Idx → Elt F .f32) (fl : S8.Idx → Elt F .i32) (fq : S8x1x8x128.Idx → Elt F .f32) (fb : S8x512.Idx → Elt F .i32) : FVec F S1x2x8x8 .f32 :=
  mlAll (fun h => mHead (mC f1 fq h)) (fun h => lHead (mC f1 fq h) (lC (cntOf c fl fb) f1 fq h))

section tables

variable (c : Dev nD) (f1 : Buf (Elt F) ((Memref.whole main_arg1).view.loc (c.tc : Thread nD τ))) (f2 : Buf (Elt F) ((Memref.whole main_arg2).view.loc (c.tc : Thread nD τ)))
  (f6 : Buf (Elt F) ((Memref.whole cc0_scratch0).view.loc (c.tc : Thread nD τ))) (f7 : Buf (Elt F) ((Memref.whole cc0_scratch1).view.loc (c.tc : Thread nD τ)))
  (fl : Buf (Elt F) ((Memref.whole cc0_stg0_0).view.loc (c.tc : Thread nD τ))) (fq : Buf (Elt F) ((Memref.whole cc0_stg1_0).view.loc (c.tc : Thread nD τ)))
  (fb : Buf (Elt F) ((Memref.whole cc0_stg2_0).view.loc (c.tc : Thread nD τ)))

omit [FloatOps F] [Named F] in
/-- A load of one head's query. -/
theorem qRow_eq (h : Fin 8) (off : Fin 4 → ℕ) (hb) (e : off = ![0, 0, h.val, 0]) :
    View.readAt (Elt F) (Memref.whole cc0_stg1_0).view (Rect.unit (s := S8x1x8x128) off S8x1x1x128.size hb).toLoadRect fq = qRow fq h := by
  subst e
  funext y
  refine congrArg fq (funext fun a => Fin.ext ?_)
  match a with
  | ⟨0, _⟩ => show 0 + 1 * (y 0).val = (y 0).val; omega
  | ⟨1, _⟩ => show 0 + 1 * (y 1).val = (y 1).val; omega
  | ⟨2, _⟩ => show h.val + 1 * (y 2).val = h.val; have h2 : (y 2).val < 1 := (y 2).isLt; omega
  | ⟨3, _⟩ => show 0 + 1 * (y 3).val = (y 3).val; omega

omit [FloatOps F] [Named F] in
/-- A load of one row's block table. -/
theorem btRow_eq (b : Fin 8) (off : Fin 2 → ℕ) (hb) (e : off = ![b.val, 0]) :
    View.readAt (Elt F) (Memref.whole cc0_stg2_0).view (Rect.unit (s := S8x512) off S1x512.size hb).toLoadRect fb = btRow fb b := by
  subst e
  funext y
  refine congrArg fb (funext fun a => Fin.ext ?_)
  match a with
  | ⟨0, _⟩ => show b.val + 1 * (y 0).val = b.val; have h2 : (y 0).val < 1 := (y 0).isLt; omega
  | ⟨1, _⟩ => show 0 + 1 * (y 1).val = (y 1).val; omega

omit [FloatOps F] [Named F] in
/-- A load of one row's length. -/
theorem lenAt_eq (b : Fin 8) (off : Fin 1 → ℕ) (hb) (y) (e : off = ![b.val]) :
    View.readAt (Elt F) (Memref.whole cc0_stg0_0).view (Rect.unit (s := S8) off S1.size hb).toLoadRect fl y = lenAt fl b := by
  subst e
  refine congrArg fl (funext fun a => Fin.ext ?_)
  match a with
  | ⟨0, _⟩ => show b.val + 1 * (y 0).val = b.val; have h2 : (y 0).val < 1 := (y 0).isLt; omega

/-- The counts the run keeps. -/
theorem cnt_eq : run.sl.v259 c fl fb = cntOf c fl fb := by
  unfold cntOf cntT
  beta_reduce
  rw [← lenAt_eq c fl 0 ![0] inb_S8_S1_0 (Shape.Idx.first (by decide)) rfl, ← lenAt_eq c fl 1 ![1] inb_S8_S1_1 (Shape.Idx.first (by decide)) rfl, ← lenAt_eq c fl 2 ![2] inb_S8_S1_2 (Shape.Idx.first (by decide)) rfl, ← lenAt_eq c fl 3 ![3] inb_S8_S1_3 (Shape.Idx.first (by decide)) rfl, ← lenAt_eq c fl 4 ![4] inb_S8_S1_4 (Shape.Idx.first (by decide)) rfl, ← lenAt_eq c fl 5 ![5] inb_S8_S1_5 (Shape.Idx.first (by decide)) rfl, ← lenAt_eq c fl 6 ![6] inb_S8_S1_6 (Shape.Idx.first (by decide)) rfl, ← lenAt_eq c fl 7 ![7] inb_S8_S1_7 (Shape.Idx.first (by decide)) rfl]
  rw [← btRow_eq c fb 0 ![0, 0] inb_S8x512_S1x512_0_0 rfl, ← btRow_eq c fb 1 ![1, 0] inb_S8x512_S1x512_1_0 rfl, ← btRow_eq c fb 2 ![2, 0] inb_S8x512_S1x512_2_0 rfl, ← btRow_eq c fb 3 ![3, 0] inb_S8x512_S1x512_3_0 rfl, ← btRow_eq c fb 4 ![4, 0] inb_S8x512_S1x512_4_0 rfl, ← btRow_eq c fb 5 ![5, 0] inb_S8x512_S1x512_5_0 rfl, ← btRow_eq c fb 6 ![6, 0] inb_S8x512_S1x512_6_0 rfl, ← btRow_eq c fb 7 ![7, 0] inb_S8x512_S1x512_7_0 rfl]
  rfl

/-- The largest scores the run keeps, chunk by chunk and head by head. -/
theorem ms_eq :
    run.sl.v492 c f1 f6 fq = mC f1 fq 0 0
    ∧ run.sl.v512 c f1 f6 fq = mC f1 fq 1 0
    ∧ run.sl.v532 c f1 f6 fq = mC f1 fq 2 0
    ∧ run.sl.v552 c f1 f6 fq = mC f1 fq 3 0
    ∧ run.sl.v572 c f1 f6 fq = mC f1 fq 4 0
    ∧ run.sl.v592 c f1 f6 fq = mC f1 fq 5 0
    ∧ run.sl.v612 c f1 f6 fq = mC f1 fq 6 0
    ∧ run.sl.v632 c f1 f6 fq = mC f1 fq 7 0
    ∧ run.sl.v846 c f1 f6 fq = mC f1 fq 0 1
    ∧ run.sl.v866 c f1 f6 fq = mC f1 fq 1 1
    ∧ run.sl.v886 c f1 f6 fq = mC f1 fq 2 1
    ∧ run.sl.v906 c f1 f6 fq = mC f1 fq 3 1
    ∧ run.sl.v926 c f1 f6 fq = mC f1 fq 4 1
    ∧ run.sl.v946 c f1 f6 fq = mC f1 fq 5 1
    ∧ run.sl.v966 c f1 f6 fq = mC f1 fq 6 1
    ∧ run.sl.v986 c f1 f6 fq = mC f1 fq 7 1
    ∧ run.sl.v1200 c f1 f6 fq = mC f1 fq 0 2
    ∧ run.sl.v1220 c f1 f6 fq = mC f1 fq 1 2
    ∧ run.sl.v1240 c f1 f6 fq = mC f1 fq 2 2
    ∧ run.sl.v1260 c f1 f6 fq = mC f1 fq 3 2
    ∧ run.sl.v1280 c f1 f6 fq = mC f1 fq 4 2
    ∧ run.sl.v1300 c f1 f6 fq = mC f1 fq 5 2
    ∧ run.sl.v1320 c f1 f6 fq = mC f1 fq 6 2
    ∧ run.sl.v1340 c f1 f6 fq = mC f1 fq 7 2
    ∧ run.sl.v1458 c f1 f6 fq = mC f1 fq 0 3
    ∧ run.sl.v1478 c f1 f6 fq = mC f1 fq 1 3
    ∧ run.sl.v1498 c f1 f6 fq = mC f1 fq 2 3
    ∧ run.sl.v1518 c f1 f6 fq = mC f1 fq 3 3
    ∧ run.sl.v1538 c f1 f6 fq = mC f1 fq 4 3
    ∧ run.sl.v1558 c f1 f6 fq = mC f1 fq 5 3
    ∧ run.sl.v1578 c f1 f6 fq = mC f1 fq 6 3
    ∧ run.sl.v1598 c f1 f6 fq = mC f1 fq 7 3 := by
  obtain ⟨k0, k1, k2, k3, k4, k5, k6, k7, k8, k9, k10, k11, k12, k13, k14, k15, k16, k17, k18, k19, k20, k21, k22, k23, k24, k25, k26, k27, k28, k29, k30, k31⟩ := loads_k c f1 f6
  unfold mC
  rw [← qRow_eq c fq 0 ![0, 0, 0, 0] inb_S8x1x8x128_S8x1x1x128_0_0_0_0 rfl, ← qRow_eq c fq 1 ![0, 0, 1, 0] inb_S8x1x8x128_S8x1x1x128_0_0_1_0 rfl, ← qRow_eq c fq 2 ![0, 0, 2, 0] inb_S8x1x8x128_S8x1x1x128_0_0_2_0 rfl, ← qRow_eq c fq 3 ![0, 0, 3, 0] inb_S8x1x8x128_S8x1x1x128_0_0_3_0 rfl, ← qRow_eq c fq 4 ![0, 0, 4, 0] inb_S8x1x8x128_S8x1x1x128_0_0_4_0 rfl, ← qRow_eq c fq 5 ![0, 0, 5, 0] inb_S8x1x8x128_S8x1x1x128_0_0_5_0 rfl, ← qRow_eq c fq 6 ![0, 0, 6, 0] inb_S8x1x8x128_S8x1x1x128_0_0_6_0 rfl, ← qRow_eq c fq 7 ![0, 0, 7, 0] inb_S8x1x8x128_S8x1x1x128_0_0_7_0 rfl]
  rw [← k0, ← k1, ← k2, ← k3, ← k4, ← k5, ← k6, ← k7, ← k8, ← k9, ← k10, ← k11, ← k12, ← k13, ← k14, ← k15, ← k16, ← k17, ← k18, ← k19, ← k20, ← k21, ← k22, ← k23, ← k24, ← k25, ← k26, ← k27, ← k28, ← k29, ← k30, ← k31]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The sums of weights the run keeps. -/
theorem ls_eq :
    run.sl.v498 c f1 f6 fl fq fb = lC (cntOf c fl fb) f1 fq 0 0
    ∧ run.sl.v518 c f1 f6 fl fq fb = lC (cntOf c fl fb) f1 fq 1 0
    ∧ run.sl.v538 c f1 f6 fl fq fb = lC (cntOf c fl fb) f1 fq 2 0
    ∧ run.sl.v558 c f1 f6 fl fq fb = lC (cntOf c fl fb) f1 fq 3 0
    ∧ run.sl.v578 c f1 f6 fl fq fb = lC (cntOf c fl fb) f1 fq 4 0
    ∧ run.sl.v598 c f1 f6 fl fq fb = lC (cntOf c fl fb) f1 fq 5 0
    ∧ run.sl.v618 c f1 f6 fl fq fb = lC (cntOf c fl fb) f1 fq 6 0
    ∧ run.sl.v638 c f1 f6 fl fq fb = lC (cntOf c fl fb) f1 fq 7 0
    ∧ run.sl.v852 c f1 f6 fl fq fb = lC (cntOf c fl fb) f1 fq 0 1
    ∧ run.sl.v872 c f1 f6 fl fq fb = lC (cntOf c fl fb) f1 fq 1 1
    ∧ run.sl.v892 c f1 f6 fl fq fb = lC (cntOf c fl fb) f1 fq 2 1
    ∧ run.sl.v912 c f1 f6 fl fq fb = lC (cntOf c fl fb) f1 fq 3 1
    ∧ run.sl.v932 c f1 f6 fl fq fb = lC (cntOf c fl fb) f1 fq 4 1
    ∧ run.sl.v952 c f1 f6 fl fq fb = lC (cntOf c fl fb) f1 fq 5 1
    ∧ run.sl.v972 c f1 f6 fl fq fb = lC (cntOf c fl fb) f1 fq 6 1
    ∧ run.sl.v992 c f1 f6 fl fq fb = lC (cntOf c fl fb) f1 fq 7 1
    ∧ run.sl.v1206 c f1 f6 fl fq fb = lC (cntOf c fl fb) f1 fq 0 2
    ∧ run.sl.v1226 c f1 f6 fl fq fb = lC (cntOf c fl fb) f1 fq 1 2
    ∧ run.sl.v1246 c f1 f6 fl fq fb = lC (cntOf c fl fb) f1 fq 2 2
    ∧ run.sl.v1266 c f1 f6 fl fq fb = lC (cntOf c fl fb) f1 fq 3 2
    ∧ run.sl.v1286 c f1 f6 fl fq fb = lC (cntOf c fl fb) f1 fq 4 2
    ∧ run.sl.v1306 c f1 f6 fl fq fb = lC (cntOf c fl fb) f1 fq 5 2
    ∧ run.sl.v1326 c f1 f6 fl fq fb = lC (cntOf c fl fb) f1 fq 6 2
    ∧ run.sl.v1346 c f1 f6 fl fq fb = lC (cntOf c fl fb) f1 fq 7 2
    ∧ run.sl.v1464 c f1 f6 fl fq fb = lC (cntOf c fl fb) f1 fq 0 3
    ∧ run.sl.v1484 c f1 f6 fl fq fb = lC (cntOf c fl fb) f1 fq 1 3
    ∧ run.sl.v1504 c f1 f6 fl fq fb = lC (cntOf c fl fb) f1 fq 2 3
    ∧ run.sl.v1524 c f1 f6 fl fq fb = lC (cntOf c fl fb) f1 fq 3 3
    ∧ run.sl.v1544 c f1 f6 fl fq fb = lC (cntOf c fl fb) f1 fq 4 3
    ∧ run.sl.v1564 c f1 f6 fl fq fb = lC (cntOf c fl fb) f1 fq 5 3
    ∧ run.sl.v1584 c f1 f6 fl fq fb = lC (cntOf c fl fb) f1 fq 6 3
    ∧ run.sl.v1604 c f1 f6 fl fq fb = lC (cntOf c fl fb) f1 fq 7 3 := by
  obtain ⟨k0, k1, k2, k3, k4, k5, k6, k7, k8, k9, k10, k11, k12, k13, k14, k15, k16, k17, k18, k19, k20, k21, k22, k23, k24, k25, k26, k27, k28, k29, k30, k31⟩ := loads_k c f1 f6
  unfold lC
  rw [← qRow_eq c fq 0 ![0, 0, 0, 0] inb_S8x1x8x128_S8x1x1x128_0_0_0_0 rfl, ← qRow_eq c fq 1 ![0, 0, 1, 0] inb_S8x1x8x128_S8x1x1x128_0_0_1_0 rfl, ← qRow_eq c fq 2 ![0, 0, 2, 0] inb_S8x1x8x128_S8x1x1x128_0_0_2_0 rfl, ← qRow_eq c fq 3 ![0, 0, 3, 0] inb_S8x1x8x128_S8x1x1x128_0_0_3_0 rfl, ← qRow_eq c fq 4 ![0, 0, 4, 0] inb_S8x1x8x128_S8x1x1x128_0_0_4_0 rfl, ← qRow_eq c fq 5 ![0, 0, 5, 0] inb_S8x1x8x128_S8x1x1x128_0_0_5_0 rfl, ← qRow_eq c fq 6 ![0, 0, 6, 0] inb_S8x1x8x128_S8x1x1x128_0_0_6_0 rfl, ← qRow_eq c fq 7 ![0, 0, 7, 0] inb_S8x1x8x128_S8x1x1x128_0_0_7_0 rfl, ← cnt_eq c fl fb]
  rw [← k0, ← k1, ← k2, ← k3, ← k4, ← k5, ← k6, ← k7, ← k8, ← k9, ← k10, ← k11, ← k12, ← k13, ← k14, ← k15, ← k16, ← k17, ← k18, ← k19, ← k20, ← k21, ← k22, ← k23, ← k24, ← k25, ← k26, ← k27, ← k28, ← k29, ← k30, ← k31]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The weighted sums the run keeps. -/
theorem os_eq :
    run.sl.v502 c f1 f2 f6 f7 fl fq fb = oC (cntOf c fl fb) f1 f2 fq 0 0
    ∧ run.sl.v522 c f1 f2 f6 f7 fl fq fb = oC (cntOf c fl fb) f1 f2 fq 1 0
    ∧ run.sl.v542 c f1 f2 f6 f7 fl fq fb = oC (cntOf c fl fb) f1 f2 fq 2 0
    ∧ run.sl.v562 c f1 f2 f6 f7 fl fq fb = oC (cntOf c fl fb) f1 f2 fq 3 0
    ∧ run.sl.v582 c f1 f2 f6 f7 fl fq fb = oC (cntOf c fl fb) f1 f2 fq 4 0
    ∧ run.sl.v602 c f1 f2 f6 f7 fl fq fb = oC (cntOf c fl fb) f1 f2 fq 5 0
    ∧ run.sl.v622 c f1 f2 f6 f7 fl fq fb = oC (cntOf c fl fb) f1 f2 fq 6 0
    ∧ run.sl.v642 c f1 f2 f6 f7 fl fq fb = oC (cntOf c fl fb) f1 f2 fq 7 0
    ∧ run.sl.v856 c f1 f2 f6 f7 fl fq fb = oC (cntOf c fl fb) f1 f2 fq 0 1
    ∧ run.sl.v876 c f1 f2 f6 f7 fl fq fb = oC (cntOf c fl fb) f1 f2 fq 1 1
    ∧ run.sl.v896 c f1 f2 f6 f7 fl fq fb = oC (cntOf c fl fb) f1 f2 fq 2 1
    ∧ run.sl.v916 c f1 f2 f6 f7 fl fq fb = oC (cntOf c fl fb) f1 f2 fq 3 1
    ∧ run.sl.v936 c f1 f2 f6 f7 fl fq fb = oC (cntOf c fl fb) f1 f2 fq 4 1
    ∧ run.sl.v956 c f1 f2 f6 f7 fl fq fb = oC (cntOf c fl fb) f1 f2 fq 5 1
    ∧ run.sl.v976 c f1 f2 f6 f7 fl fq fb = oC (cntOf c fl fb) f1 f2 fq 6 1
    ∧ run.sl.v996 c f1 f2 f6 f7 fl fq fb = oC (cntOf c fl fb) f1 f2 fq 7 1
    ∧ run.sl.v1210 c f1 f2 f6 f7 fl fq fb = oC (cntOf c fl fb) f1 f2 fq 0 2
    ∧ run.sl.v1230 c f1 f2 f6 f7 fl fq fb = oC (cntOf c fl fb) f1 f2 fq 1 2
    ∧ run.sl.v1250 c f1 f2 f6 f7 fl fq fb = oC (cntOf c fl fb) f1 f2 fq 2 2
    ∧ run.sl.v1270 c f1 f2 f6 f7 fl fq fb = oC (cntOf c fl fb) f1 f2 fq 3 2
    ∧ run.sl.v1290 c f1 f2 f6 f7 fl fq fb = oC (cntOf c fl fb) f1 f2 fq 4 2
    ∧ run.sl.v1310 c f1 f2 f6 f7 fl fq fb = oC (cntOf c fl fb) f1 f2 fq 5 2
    ∧ run.sl.v1330 c f1 f2 f6 f7 fl fq fb = oC (cntOf c fl fb) f1 f2 fq 6 2
    ∧ run.sl.v1350 c f1 f2 f6 f7 fl fq fb = oC (cntOf c fl fb) f1 f2 fq 7 2
    ∧ run.sl.v1468 c f1 f2 f6 f7 fl fq fb = oC (cntOf c fl fb) f1 f2 fq 0 3
    ∧ run.sl.v1488 c f1 f2 f6 f7 fl fq fb = oC (cntOf c fl fb) f1 f2 fq 1 3
    ∧ run.sl.v1508 c f1 f2 f6 f7 fl fq fb = oC (cntOf c fl fb) f1 f2 fq 2 3
    ∧ run.sl.v1528 c f1 f2 f6 f7 fl fq fb = oC (cntOf c fl fb) f1 f2 fq 3 3
    ∧ run.sl.v1548 c f1 f2 f6 f7 fl fq fb = oC (cntOf c fl fb) f1 f2 fq 4 3
    ∧ run.sl.v1568 c f1 f2 f6 f7 fl fq fb = oC (cntOf c fl fb) f1 f2 fq 5 3
    ∧ run.sl.v1588 c f1 f2 f6 f7 fl fq fb = oC (cntOf c fl fb) f1 f2 fq 6 3
    ∧ run.sl.v1608 c f1 f2 f6 f7 fl fq fb = oC (cntOf c fl fb) f1 f2 fq 7 3 := by
  obtain ⟨k0, k1, k2, k3, k4, k5, k6, k7, k8, k9, k10, k11, k12, k13, k14, k15, k16, k17, k18, k19, k20, k21, k22, k23, k24, k25, k26, k27, k28, k29, k30, k31⟩ := loads_k c f1 f6
  obtain ⟨v0, v1, v2, v3, v4, v5, v6, v7, v8, v9, v10, v11, v12, v13, v14, v15, v16, v17, v18, v19, v20, v21, v22, v23, v24, v25, v26, v27, v28, v29, v30, v31⟩ := loads_v c f2 f7
  unfold oC
  rw [← qRow_eq c fq 0 ![0, 0, 0, 0] inb_S8x1x8x128_S8x1x1x128_0_0_0_0 rfl, ← qRow_eq c fq 1 ![0, 0, 1, 0] inb_S8x1x8x128_S8x1x1x128_0_0_1_0 rfl, ← qRow_eq c fq 2 ![0, 0, 2, 0] inb_S8x1x8x128_S8x1x1x128_0_0_2_0 rfl, ← qRow_eq c fq 3 ![0, 0, 3, 0] inb_S8x1x8x128_S8x1x1x128_0_0_3_0 rfl, ← qRow_eq c fq 4 ![0, 0, 4, 0] inb_S8x1x8x128_S8x1x1x128_0_0_4_0 rfl, ← qRow_eq c fq 5 ![0, 0, 5, 0] inb_S8x1x8x128_S8x1x1x128_0_0_5_0 rfl, ← qRow_eq c fq 6 ![0, 0, 6, 0] inb_S8x1x8x128_S8x1x1x128_0_0_6_0 rfl, ← qRow_eq c fq 7 ![0, 0, 7, 0] inb_S8x1x8x128_S8x1x1x128_0_0_7_0 rfl, ← cnt_eq c fl fb]
  rw [← k0, ← k1, ← k2, ← k3, ← k4, ← k5, ← k6, ← k7, ← k8, ← k9, ← k10, ← k11, ← k12, ← k13, ← k14, ← k15, ← k16, ← k17, ← k18, ← k19, ← k20, ← k21, ← k22, ← k23, ← k24, ← k25, ← k26, ← k27, ← k28, ← k29, ← k30, ← k31]
  rw [← v0, ← v1, ← v2, ← v3, ← v4, ← v5, ← v6, ← v7, ← v8, ← v9, ← v10, ← v11, ← v12, ← v13, ← v14, ← v15, ← v16, ← v17, ← v18, ← v19, ← v20, ← v21, ← v22, ← v23, ← v24, ← v25, ← v26, ← v27, ← v28, ← v29, ← v30, ← v31]
  exact ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The weighted sums the run stores are those of the device's arrays. -/
theorem run_o : (run c f1 f2 f6 f7 fl fq fb).1 = oPay c f1 f2 fl fq fb := by
  obtain ⟨m0, m1, m2, m3, m4, m5, m6, m7, m8, m9, m10, m11, m12, m13, m14, m15, m16, m17, m18, m19, m20, m21, m22, m23, m24, m25, m26, m27, m28, m29, m30, m31⟩ := ms_eq c f1 f6 fq
  obtain ⟨o0, o1, o2, o3, o4, o5, o6, o7, o8, o9, o10, o11, o12, o13, o14, o15, o16, o17, o18, o19, o20, o21, o22, o23, o24, o25, o26, o27, o28, o29, o30, o31⟩ := os_eq c f1 f2 f6 f7 fl fq fb
  unfold oPay oAll oHead oTerm scHead mHead cat4
  beta_reduce
  rw [← m0, ← m1, ← m2, ← m3, ← m4, ← m5, ← m6, ← m7, ← m8, ← m9, ← m10, ← m11, ← m12, ← m13, ← m14, ← m15, ← m16, ← m17, ← m18, ← m19, ← m20, ← m21, ← m22, ← m23, ← m24, ← m25, ← m26, ← m27, ← m28, ← m29, ← m30, ← m31]
  rw [← o0, ← o1, ← o2, ← o3, ← o4, ← o5, ← o6, ← o7, ← o8, ← o9, ← o10, ← o11, ← o12, ← o13, ← o14, ← o15, ← o16, ← o17, ← o18, ← o19, ← o20, ← o21, ← o22, ← o23, ← o24, ← o25, ← o26, ← o27, ← o28, ← o29, ← o30, ← o31]
  rfl

/-- The largest scores and sums of weights the run stores are those of the device's arrays. -/
theorem run_ml : (run c f1 f2 f6 f7 fl fq fb).2.1 = mlPay c f1 fl fq fb := by
  obtain ⟨m0, m1, m2, m3, m4, m5, m6, m7, m8, m9, m10, m11, m12, m13, m14, m15, m16, m17, m18, m19, m20, m21, m22, m23, m24, m25, m26, m27, m28, m29, m30, m31⟩ := ms_eq c f1 f6 fq
  obtain ⟨l0, l1, l2, l3, l4, l5, l6, l7, l8, l9, l10, l11, l12, l13, l14, l15, l16, l17, l18, l19, l20, l21, l22, l23, l24, l25, l26, l27, l28, l29, l30, l31⟩ := ls_eq c f1 f6 fl fq fb
  unfold mlPay mlAll cat8 lHead scHead mHead cat4
  beta_reduce
  rw [← m0, ← m1, ← m2, ← m3, ← m4, ← m5, ← m6, ← m7, ← m8, ← m9, ← m10, ← m11, ← m12, ← m13, ← m14, ← m15, ← m16, ← m17, ← m18, ← m19, ← m20, ← m21, ← m22, ← m23, ← m24, ← m25, ← m26, ← m27, ← m28, ← m29, ← m30, ← m31]
  rw [← l0, ← l1, ← l2, ← l3, ← l4, ← l5, ← l6, ← l7, ← l8, ← l9, ← l10, ← l11, ← l12, ← l13, ← l14, ← l15, ← l16, ← l17, ← l18, ← l19, ← l20, ← l21, ← l22, ← l23, ← l24, ← l25, ← l26, ← l27, ← l28, ← l29, ← l30, ← l31]
  rfl

end tables

end Cert.Paged
-- ==== Proof.Fund.lean ====
module

public import proofs.«01_k».proof.Proof.Clean
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

/-!
# What the launch deals

The cells, the tokens and the credits the exchange starts from, dealt to the eight devices.
-/

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MM F

variable (gO : CO F) (gM : CM F)

/-! ## The cells of one device, one by one -/

omit [FloatOps F] [Named F] in
/-- Something held of every cell of a device: of its barrier, of its sends, and of its arrivals by offset. -/
theorem cells_eq (c : Dev nD) (Φ : GSem nD τ sig → sProp 𝕄) :
    (bigSep Finset.univ fun k : KC => Φ (kcell (c, k)))
      = iprop(Φ (barCell c) ∗ eight (fun o => iprop(Φ (sendCell c o 0) ∗ Φ (sendCell c o 1)))
          ∗ eight (fun o => iprop(Φ (recvCell c (nb c o) 0) ∗ Φ (recvCell c (nb c o) 1)))) := by
  have h2 (Ψ : Fin 2 → sProp 𝕄) : bigSep Finset.univ Ψ = iprop(Ψ 0 ∗ Ψ 1) :=
    bigSep_univ_eq_bigSepL [0, 1] (by decide) (by decide) Ψ
  have h1 (Ψ : Unit → sProp 𝕄) : bigSep Finset.univ Ψ = Ψ () := bigSep_univ_eq_bigSepL [()] (by decide) (by decide) Ψ
  rw [BI.bigSep_univ_sum, BI.bigSep_univ_sum, BI.bigSep_univ_prod, BI.bigSep_univ_prod, h1, ← bigSep_eight, ← bigSep_eight]
  have hS : ∀ o : Fin 8, (bigSep Finset.univ fun k : Fin 2 => Φ (kcell (c, .inr (.inl (o, k))))) = iprop(Φ (sendCell c o 0) ∗ Φ (sendCell c o 1)) :=
    fun o => h2 _
  have hR : ∀ o : Fin 8, (bigSep Finset.univ fun k : Fin 2 => Φ (kcell (c, .inr (.inr (o, k))))) = iprop(Φ (recvCell c o 0) ∗ Φ (recvCell c o 1)) :=
    fun o => h2 _
  simp only [hS, hR]
  rw [BI.bigSep_univ_equiv (nbEquiv c) fun o : Fin 8 => iprop(Φ (recvCell c o 0) ∗ Φ (recvCell c o 1))]
  rfl

/-! ## The semaphores -/

omit [FloatOps F] [Named F] in
theorem sep_swap (A B C : sProp 𝕄) : iprop((A ∗ B) ∗ C) = iprop(A ∗ C ∗ B) := by
  refine Idealize.SL.BI.Entails.antisymm (show iprop((A ∗ B) ∗ C) ⊢ iprop(A ∗ C ∗ B) from ?_) (show iprop(A ∗ C ∗ B) ⊢ iprop((A ∗ B) ∗ C) from ?_)
  · iintro ⟨⟨H1, H2⟩, H3⟩
    isplitl [H1]; · iexact H1
    isplitl [H3]; · iexact H3
    iexact H2
  · iintro ⟨H1, H3, H2⟩
    isplitl [H1 H2]
    · isplitl [H1]; · iexact H1
      iexact H2
    iexact H3

theorem ownSemFacts : Pipeline.OwnSemFacts cfg0.spec osem where
  isScoped := by decide +kernel
  inj := osem_inj
  disj := by decide +kernel

omit [FloatOps F] [Named F] in
/-- The semaphores of the page copies. -/
theorem copySems_eq (c : Dev nD) :
    (bigSep Finset.univ fun p : Fin 2 × Fin 2 × Fin 8 => semVal ((c.tc : Thread nD τ), osem (.inl p)) 0 : sProp 𝕄) = copySems (F := F) c := by
  rw [bigSep_univ_eq_bigSepL [(0, 0, 0), (0, 0, 1), (0, 0, 2), (0, 0, 3), (0, 0, 4), (0, 0, 5), (0, 0, 6), (0, 0, 7),
    (0, 1, 0), (0, 1, 1), (0, 1, 2), (0, 1, 3), (0, 1, 4), (0, 1, 5), (0, 1, 6), (0, 1, 7),
    (1, 0, 0), (1, 0, 1), (1, 0, 2), (1, 0, 3), (1, 0, 4), (1, 0, 5), (1, 0, 6), (1, 0, 7),
    (1, 1, 0), (1, 1, 1), (1, 1, 2), (1, 1, 3), (1, 1, 4), (1, 1, 5), (1, 1, 6), (1, 1, 7)] (by decide +kernel) (by decide +kernel)]
  rfl

omit [FloatOps F] [Named F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] [Named F] in
/-- A device's own semaphores and its barrier, at zero: the cells of the exchange and the page copies. -/
theorem sems_eq (c : Dev nD) :
    iprop(Pipeline.ownSems0 (Ix := Bool) (Name := ℕ) (U := UU) (Lvl := ℕ) (Val := Elt F) (τ := τ) osem c ∗ unscopedSems0 c)
      = iprop(copySems (F := F) c ∗ bigSep Finset.univ fun k : KC => (semVal (kcell (c, k)) 0 : sProp 𝕄)) := by
  have h1 (Ψ : Unit → sProp 𝕄) : bigSep Finset.univ Ψ = Ψ () := bigSep_univ_eq_bigSepL [()] (by decide) (by decide) Ψ
  rw [unscopedSems0_eq]
  unfold Pipeline.ownSems0
  rw [BI.bigSep_univ_sum, BI.bigSep_univ_sum (α := Unit), h1, copySems_eq]
  have e : (bigSep Finset.univ fun b : (Fin 8 × Fin 2) ⊕ (Fin 8 × Fin 2) => (semVal ((c.tc : Thread nD τ), osem (.inr b)) 0 : sProp 𝕄))
      = bigSep Finset.univ fun b : (Fin 8 × Fin 2) ⊕ (Fin 8 × Fin 2) => semVal (kcell (c, .inr b)) 0 :=
    bigSep_congr fun b _ => by rcases b with b | b <;> rfl
  rw [e]
  exact sep_swap _ _ _

/-! ## The tokens -/

/-- The cell and the duty of each token device `c` pays with at offset `o`. -/
def tokKey (x : Dev nD × Fin 8 × Fin 5) : (Dev nD × KC) × Fin 8 := match x.2.2 with
  | 0 => ((nb x.1 x.2.1, .inl ()), x.1)
  | 1 => ((nb x.1 x.2.1, .inr (.inr (x.1, 0))), x.1)
  | 2 => ((nb x.1 x.2.1, .inr (.inr (x.1, 1))), x.1)
  | 3 => ((x.1, .inr (.inl (x.2.1, 0))), 0)
  | 4 => ((x.1, .inr (.inl (x.2.1, 1))), 0)

theorem tokKey_inj : Function.Injective tokKey := by
  rintro ⟨c, o, j⟩ ⟨c', o', j'⟩ h
  have key : j = j' ∧ c = c' ∧ o = o' := by
    fin_cases j <;> fin_cases j' <;> simp only [tokKey, Prod.mk.injEq, Sum.inr.injEq, Sum.inl.injEq, reduceCtorEq, and_false, false_and] at h <;>
      first
      | exact h.elim
      | (obtain ⟨⟨h1, -⟩, h2⟩ := h; subst h2; exact ⟨rfl, rfl, nb_inj _ _ _ h1⟩)
      | (obtain ⟨⟨h1, h2, -⟩, -⟩ := h; exact ⟨rfl, h1, h2⟩)
      | (exfalso; revert h; simp; done)
  rw [key.1, key.2.1, key.2.2]

def tokOf (x : Dev nD × Fin 8 × Fin 5) : GSem nD τ sig × ℕ × Fin 8 := (kcell (tokKey x).1, 0, (tokKey x).2)

theorem tokOf_inj : Function.Injective tokOf := by
  intro x y h
  have h1 : (tokKey x).1 = (tokKey y).1 := kcell_inj (congrArg Prod.fst h)
  have h2 : (tokKey x).2 = (tokKey y).2 := congrArg (fun z => z.2.2) h
  exact tokKey_inj (Prod.ext h1 h2)

def allCells : Finset (GSem nD τ sig) := Finset.univ.map ⟨kcell, kcell_inj⟩
def allToks : Finset (GSem nD τ sig × ℕ × Fin 8) := Finset.univ.map ⟨tokOf, tokOf_inj⟩

def u₀ : UU := (initOf (Pipeline.cells cfgs cellOf_inj) (Pipeline.launchToks cfgs cellOf_inj), (initOf allCells allToks, 1))

omit [FloatOps F] [Named F] in
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Bool) (Val := Elt F) (Name := ℕ) (U := UU) (Lvl := ℕ)).toEmb.op_of_mem
    (Prod.mk_mem_op (URA.mem_op_one a) (URA.mem_one_op (b, (1 : Counters)))))

/-- What the launch element deals device `c`. -/
def G (c : Dev nD) : sProp 𝕄 :=
  iprop((bigSep Finset.univ fun k : KC => roundState ER (Rd gO gM) (kcell (c, k)) 0)
    ∗ (bigSep Finset.univ fun k : KC => iprop(atPos ER (kcell (c, k)) 0 ∅ 0 ∗ reached ER (kcell (c, k)) 0)) ∗ bigSep Finset.univ fun o : Fin 8 => toks c o)

omit [FloatOps F] [Named F] in
theorem fund_cells : BI.own (ER (initOf allCells allToks)) ⊢ (|==> bigSep Finset.univ (G gO gM) : sProp 𝕄) := by
  have h5 (Ψ : Fin 5 → sProp 𝕄) : bigSep Finset.univ Ψ = iprop(Ψ 0 ∗ Ψ 1 ∗ Ψ 2 ∗ Ψ 3 ∗ Ψ 4) :=
    bigSep_univ_eq_bigSepL [0, 1, 2, 3, 4] (by decide) (by decide) Ψ
  have hX (Φ : GSem nD τ sig → sProp 𝕄) : bigSep allCells Φ = bigSep Finset.univ fun c : Dev nD => bigSep Finset.univ fun k : KC => Φ (kcell (c, k)) := by
    unfold allCells; rw [bigSep_map, bigSep_univ_prod]; rfl
  have hT : bigSep allToks (fun x => (dutyTok ER x.1 x.2.1 x.2.2 : sProp 𝕄)) ⊢ bigSep Finset.univ fun c : Dev nD => bigSep Finset.univ fun o : Fin 8 => toks c o := by
    unfold allToks; rw [bigSep_map, bigSep_univ_prod]
    refine bigSep_mono fun c _ => ?_
    rw [bigSep_univ_prod]
    refine bigSep_mono fun o _ => ?_
    rw [h5]; unfold toks
    show iprop(dutyTok ER (barCell (nb c o)) 0 c ∗ dutyTok ER (recvCell (nb c o) c 0) 0 c ∗ dutyTok ER (recvCell (nb c o) c 1) 0 c
      ∗ dutyTok ER (sendCell c o 0) 0 0 ∗ dutyTok ER (sendCell c o 1) 0 0) ⊢ (_ : sProp 𝕄)
    iintro ⟨H0, H1, H2, H3, H4⟩
    isplitl [H0]; · iexact H0
    isplitl [H1 H2]
    · isplitl [H1]; · iexact H1
      iexact H2
    isplitl [H3]; · iexact H3
    iexact H4
  iintro HX
  imod (Rounds.fund ER (Rd gO gM) allCells allToks) $$ HX with ⟨Hst, Hr, Hat, Htok⟩
  imodintro
  ihave Hst' := (Entails.of_eq (hX fun g => roundState ER (Rd gO gM) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The global step -/

/-- What the global step makes of it. -/
def G' (c : Dev nD) : sProp 𝕄 :=
  iprop((∃ K, records gO gM K) ∗ copySems (F := F) c ∗ (bigSep Finset.univ fun k : KC => atPos ER (kcell (c, k)) 0 ∅ 0) ∗ bigSep Finset.univ fun o : Fin 8 => toks c o)

omit [FloatOps F] [Named F] in
theorem core_alloc (c : Dev nD) :
    iprop(Pipeline.ownSems0 (Ix := Bool) (Name := ℕ) (U := UU) (Lvl := ℕ) (Val := Elt F) (τ := τ) osem c ∗ unscopedSems0 c ∗ G gO gM c)
      ⊢ |={Set.univ}=> iprop((bigSep Finset.univ fun k : KC => iprop(∃ κ : ℕ, cellInv ER (Rd gO gM) κ (kcell (c, k))))
          ∗ (copySems (F := F) c ∗ (bigSep Finset.univ fun k : KC => iprop(atPos ER (kcell (c, k)) 0 ∅ 0)) ∗ bigSep Finset.univ fun o : Fin 8 => toks c o)
          ∗ (bigSep Finset.univ fun k : KC => reached ER (kcell (c, k)) 0)) := by
  unfold G
  iintro ⟨Hos, Hus, Hst, Hat, Htok⟩
  ihave Hv := (Entails.of_eq (sems_eq (F := F) c)) $$ [Hos Hus]
  · isplitl [Hos] <;> iassumption
  icases Hv with ⟨Hcs, Hv⟩
  imod (show iprop((bigSep Finset.univ fun k : KC => semVal (kcell (c, k)) 0) ∗ bigSep Finset.univ fun k : KC => roundState ER (Rd gO gM) (kcell (c, k)) 0)
      ⊢ (|={Set.univ}=> bigSep Finset.univ fun k => iprop(∃ κ : ℕ, cellInv ER (Rd gO gM) κ (kcell (c, k))) : sProp 𝕄) from by
        rw [← bigSep_sep']
        exact (bigSep_mono fun k _ => (Rounds.body_intro ER (Rd gO gM) (kcell (c, k))).trans inv_alloc).trans (bigSep_fupd _ _)) $$ [Hv Hst] with Hinv
  · isplitl [Hv] <;> iassumption
  imodintro
  ihave Hat := (Entails.of_eq (bigSep_sep' Finset.univ (fun k : KC => (atPos ER (kcell (c, k)) 0 ∅ 0 : sProp 𝕄)) (fun k => reached ER (kcell (c, k)) 0))) $$ Hat
  icases Hat with ⟨Hat, Hr⟩
  isplitl [Hinv]; · iexact Hinv
  isplitr [Hr]
  · isplitl [Hcs]; · iexact Hcs
    isplitl [Hat]; · iexact Hat
    iexact Htok
  iexact Hr

omit [FloatOps F] [Named F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] [Named F] in
theorem regroup :
    (bigSep Finset.univ fun c : Dev nD => iprop((bigSep Finset.univ fun k : KC => iprop(∃ κ : ℕ, cellInv ER (Rd gO gM) κ (kcell (c, k))))
          ∗ (copySems (F := F) c ∗ (bigSep Finset.univ fun k : KC => iprop(atPos ER (kcell (c, k)) 0 ∅ 0)) ∗ bigSep Finset.univ fun o : Fin 8 => toks c o)
          ∗ (bigSep Finset.univ fun k : KC => reached ER (kcell (c, k)) 0)) : sProp 𝕄)
      ⊢ bigSep Finset.univ (G' gO gM) := by
  rw [bigSep_sep' Finset.univ, bigSep_sep' Finset.univ, ← bigSep_univ_prod (fun ck : Dev nD × KC => iprop(∃ κ : ℕ, cellInv ER (Rd gO gM) κ (kcell ck))),
    ← bigSep_univ_prod (fun ck : Dev nD × KC => (reached ER (kcell ck) 0 : sProp 𝕄))]
  iintro ⟨HI, Hrest, #HR⟩
  ihave HK := (BI.bigSep_exists_pi Finset.univ (fun (ck : Dev nD × KC) (κ : ℕ) => (cellInv ER (Rd gO gM) κ (kcell ck) : sProp 𝕄))) $$ HI
  icases HK with ⟨%K, #HI⟩
  iapply (bigSep_with_persistent (R := records gO gM K) (Ψ := G' gO gM) fun c _ => ?h) $$ [Hrest]
  case h =>
    unfold G'
    iintro ⟨HK, H⟩
    isplitl [HK]; · iexists K; iexact HK
    iexact H
  isplitr
  · unfold records; isplitl; · iexact HI
    iexact HR
  · iexact Hrest

omit [FloatOps F] [Named F] in
theorem glob : (bigSep Finset.univ fun c => iprop(Pipeline.ownSems0 (Ix := Bool) (Name := ℕ) (U := UU) (Lvl := ℕ) (Val := Elt F) (τ := τ) osem c ∗ unscopedSems0 c ∗ G gO gM c) : sProp 𝕄)
    ⊢ |={Set.univ}=> bigSep Finset.univ (G' gO gM) :=
  ((bigSep_mono fun c _ => core_alloc gO gM c).trans (bigSep_fupd _ _)).trans (BI.fupd_mono (regroup gO gM))

/-! ## The launch credit -/

theorem barCell_iff (a b : Dev nD) : barCell a = barCell b ↔ a = b :=
  ⟨fun h => congrArg Prod.fst (kcell_inj (a₁ := (a, .inl ())) (a₂ := (b, .inl ())) h), fun h => h ▸ rfl⟩
theorem recvCell_iff (a b : Dev nD) (s s' : Fin 8) (k k' : Fin 2) : recvCell a s k = recvCell b s' k' ↔ a = b ∧ s = s' ∧ k = k' := by
  constructor
  · intro h
    have e := kcell_inj (a₁ := (a, .inr (.inr (s, k)))) (a₂ := (b, .inr (.inr (s', k')))) h
    simp only [Prod.mk.injEq, Sum.inr.injEq] at e
    exact e
  · rintro ⟨rfl, rfl, rfl⟩; rfl
theorem bar_ne_recv (a b : Dev nD) (s : Fin 8) (k : Fin 2) : barCell a ≠ recvCell b s k := fun h => by
  have e := kcell_inj (a₁ := (a, .inl ())) (a₂ := (b, .inr (.inr (s, k)))) h
  simp only [Prod.mk.injEq, reduceCtorEq, and_false] at e

theorem owed_false (d : Dev nD) (g : GSem nD τ sig) : O₀ d g false = 0 := by
  by_contra h
  exact absurd (owedB_pos (Nat.pos_of_ne_zero h)).2 (by decide)

theorem owed_bar (d c : Dev nD) : O₀ d (barCell c) true = (sigList.map fun o => if c = nb d o then 1 else 0).sum := by
  unfold O₀
  rw [owedB_apply]
  have h0 : owedR d sendList (barCell c) true = 0 := by
    by_contra h
    obtain ⟨⟨c', s, k, e⟩, -⟩ := owedR_pos (Nat.pos_of_ne_zero h)
    exact bar_ne_recv _ _ _ _ e
  rw [h0, Nat.add_zero]
  simp only [barCell_iff, and_true]

theorem owed_recv (d c : Dev nD) (s : Fin 8) (k : Fin 2) :
    O₀ d (recvCell c s k) true = (sendList.map fun x => if c = nb d x.1 ∧ s = d ∧ k = x.2 then 1 else 0).sum * credN k := by
  unfold O₀
  rw [owedB_apply, owedR_apply]
  have h0 : (sigList.map fun o => if recvCell c s k = barCell (nb d o) ∧ true = true then 1 else 0).sum = 0 := by
    refine List.sum_eq_zero fun x hx => ?_
    obtain ⟨o, -, rfl⟩ := List.mem_map.mp hx
    exact if_neg fun h => bar_ne_recv _ _ _ _ h.1.symm
  rw [h0, Nat.zero_add, ← List.sum_map_mul_right]
  congr 1
  refine List.map_congr_left fun x _ => ?_
  by_cases h : c = nb d x.1 ∧ s = d ∧ k = x.2
  · rw [if_pos ⟨(recvCell_iff _ _ _ _ _ _).mpr h, rfl⟩, if_pos h, Nat.one_mul, h.2.2]
  · rw [if_neg fun h' => h ((recvCell_iff _ _ _ _ _ _).mp h'.1), if_neg h, Nat.zero_mul]

omit [FloatOps F] [Named F] in
theorem launch_bar (c : Dev nD) :
    tallyOn (barCell c) (launchCredit (Pipeline.owing O₀) 0 (barCell c)) = (tallyAt (barCell c) true 7 : CellTallies nD τ sig Bool) := by
  unfold tallyAt; refine congrArg _ (Finsupp.ext fun u => ?_)
  rw [Pipeline.launchCredit_owing]
  cases u
  · rw [Finset.sum_congr rfl fun d _ => owed_false d _, Finset.sum_const_zero, Finsupp.single_eq_of_ne (by decide)]
  · rw [Finsupp.single_eq_same, Finset.sum_congr rfl fun d _ => owed_bar d c]
    revert c; decide +kernel

omit [FloatOps F] [Named F] in
theorem launch_recv (c : Dev nD) (s : Fin 8) (k : Fin 2) (hs : s ≠ c) :
    tallyOn (recvCell c s k) (launchCredit (Pipeline.owing O₀) 0 (recvCell c s k)) = (tallyAt (recvCell c s k) true (credN k) : CellTallies nD τ sig Bool) := by
  unfold tallyAt; refine congrArg _ (Finsupp.ext fun u => ?_)
  rw [Pipeline.launchCredit_owing]
  cases u
  · rw [Finset.sum_congr rfl fun d _ => owed_false d _, Finset.sum_const_zero, Finsupp.single_eq_of_ne (by decide)]
  · rw [Finsupp.single_eq_same, Finset.sum_congr rfl fun d _ => owed_recv d c s k, ← Finset.sum_mul]
    have h : (∑ d : Dev nD, (sendList.map fun x => if c = nb d x.1 ∧ s = d ∧ k = x.2 then 1 else 0).sum) = 1 := by
      revert c s k; decide +kernel
    rw [h, Nat.one_mul]

omit [FloatOps F] [Named F] in
theorem creds (c : Dev nD) :
    (Pipeline.launchCred O₀ c : sProp 𝕄) ⊢ iprop(cred (tallyAt (barCell c) true 7) ∗ seven fun o => recvCr (F := F) c o) := by
  unfold Pipeline.launchCred
  refine (bigSep_subset (t := Finset.univ.map ⟨csem, csem_inj⟩) (Finset.subset_univ _)).trans ?_
  rw [bigSep_map]
  refine (Entails.of_eq (cells_eq c fun g => cred (tallyOn g (launchCredit (Pipeline.owing O₀) 0 g)))).trans ?_
  beta_reduce
  have hc (o : Fin 8) (ho : o ≠ 0) : iprop(cred (tallyOn (recvCell c (nb c o) 0) (launchCredit (Pipeline.owing O₀) 0 (recvCell c (nb c o) 0)))
      ∗ cred (tallyOn (recvCell c (nb c o) 1) (launchCredit (Pipeline.owing O₀) 0 (recvCell c (nb c o) 1)))) ⊢ (recvCr (F := F) c o : sProp 𝕄) := by
    rw [launch_recv c _ _ (nb_ne c o ho), launch_recv c _ _ (nb_ne c o ho)]; unfold recvCr; exact .rfl
  rw [launch_bar]
  iintro ⟨Hb, -, ⟨-, H1, H2, H3, H4, H5, H6, H7⟩⟩
  isplitl [Hb]; · iexact Hb
  isplitl [H1]; · iapply (hc 1 (by decide)); iexact H1
  isplitl [H2]; · iapply (hc 2 (by decide)); iexact H2
  isplitl [H3]; · iapply (hc 3 (by decide)); iexact H3
  isplitl [H4]; · iapply (hc 4 (by decide)); iexact H4
  isplitl [H5]; · iapply (hc 5 (by decide)); iexact H5
  isplitl [H6]; · iapply (hc 6 (by decide)); iexact H6
  iapply (hc 7 (by decide)); iexact H7

end Cert.Paged

end
-- ==== Proof.Launch.lean ====
module

public import proofs.«01_k».proof.Proof.Fund
public import Idealize.ShloMosaic.Lib.ValueLayout
public import Idealize.ShloMosaic.Lib.Pipeline.CollectiveSegs

@[expose] public section

noncomputable section

/-!
# The run of the eight devices

What the gather buffers hold at the end, the pipeline's data, the body's obligation, and the run of the whole program.
-/

namespace Cert.Paged

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MM F

variable (m : (ℓ : Loc nD τ sig) → Buf (Elt F) ℓ) (ρ : Dev nD → PrngReg)

/-! ## The contents -/

/-- The staged lengths, queries and page table of a device, and its keys and values. -/
def lenB (c : Dev nD) : S8.Idx → Elt F .i32 := (win0_0.blk (0 : Fin 1)).view.read (Elt F) (m ((c : Thread nD τ).loc main_arg4))
def qB (c : Dev nD) : S8x1x8x128.Idx → Elt F .f32 := (win0_1.blk (0 : Fin 1)).view.read (Elt F) (m ((c : Thread nD τ).loc main_arg0))
def btB (c : Dev nD) : S8x512.Idx → Elt F .i32 := (win0_2.blk (0 : Fin 1)).view.read (Elt F) (m ((c : Thread nD τ).loc main_arg3))
def kB (c : Dev nD) : S512x16x8x128.Idx → Elt F .f32 := m ((c : Thread nD τ).loc main_arg1)
def vB (c : Dev nD) : S512x16x8x128.Idx → Elt F .f32 := m ((c : Thread nD τ).loc main_arg2)

/-- Device `c`'s share of the weighted sums, and of the largest scores and sums of weights. -/
def oDev (c : Dev nD) : FVec F S1x8x8x128 .f32 := oPay c (kB m c) (vB m c) (lenB m c) (qB m c) (btB m c)
def mlDev (c : Dev nD) : FVec F S1x2x8x8 .f32 := mlPay c (kB m c) (lenB m c) (qB m c) (btB m c)

/-- The gathered weighted sums: slot `s` is device `s`'s. -/
def gatO : CO F := fun (i : S8x8x8x128.Idx) => oDev m (i 0) (ix4 (n0 := 1) (n1 := 8) (n2 := 8) (n3 := 128) 0 (i 1) (i 2) (i 3))
/-- The gathered largest scores and sums of weights. -/
def gatM : CM F := fun (i : S8x2x8x8.Idx) => mlDev m (i 0) (ix4 (n0 := 1) (n1 := 2) (n2 := 8) (n3 := 8) 0 (i 1) (i 2) (i 3))

theorem off1_eq (c : Dev nD) : k0_off1 c = ![c.val, 0, 0, 0] := k0_off1_eq c
theorem off2_eq (c : Dev nD) : k0_off2 c = ![c.val, 0, 0, 0] := k0_off2_eq c

/-- What a device stores in its own slot of the gathered sums. -/
theorem write_o (c : Dev nD) (off : Fin 4 → ℕ) (inb) (hoff : off = ![c.val, 0, 0, 0]) (f : CO F) (i : S8x8x8x128.Idx) (hi : i ∈ oSet c) :
    ((Memref.whole cc0_scratch3).access (Rect.unit (s := S8x8x8x128) off S1x8x8x128.size inb)).write (Elt F) f (oDev m c) Finset.univ i = gatO m i := by
  subst hoff
  have hi0 : i 0 = c := Fin.ext (Finset.mem_filter.mp hi).2
  have hy : ((Memref.whole cc0_scratch3).access (Rect.unit (s := S8x8x8x128) ![c.val, 0, 0, 0] S1x8x8x128.size inb)).emb
      (ix4 (n0 := 1) (n1 := 8) (n2 := 8) (n3 := 128) 0 (i 1) (i 2) (i 3)) = i := by
    show (((View.whole cc0_scratch3).slice (Rect.unit (s := S8x8x8x128) ![c.val, 0, 0, 0] S1x8x8x128.size inb))).emb _ = i
    rw [View.emb_slice, Function.Embedding.trans_apply, View.emb_whole, Function.Embedding.refl_apply]
    funext a; apply Fin.ext
    rw [Rect.emb_apply]
    fin_cases a
    · show c.val + 1 * 0 = (i 0).val; rw [hi0]; omega
    · show 0 + 1 * (i 1).val = (i 1).val; omega
    · show 0 + 1 * (i 2).val = (i 2).val; omega
    · show 0 + 1 * (i 3).val = (i 3).val; omega
  conv_lhs => rw [← hy, View.write_emb_of_mem _ _ (Finset.mem_univ _)]
  unfold gatO
  rw [hi0]
  rfl
/-- What a device stores in its own slot of the gathered largest scores and sums of weights. -/
theorem write_ml (c : Dev nD) (off : Fin 4 → ℕ) (inb) (hoff : off = ![c.val, 0, 0, 0]) (f : CM F) (i : S8x2x8x8.Idx) (hi : i ∈ mSet c) :
    ((Memref.whole cc0_scratch4).access (Rect.unit (s := S8x2x8x8) off S1x2x8x8.size inb)).write (Elt F) f (mlDev m c) Finset.univ i = gatM m i := by
  subst hoff
  have hi0 : i 0 = c := Fin.ext (Finset.mem_filter.mp hi).2
  have hy : ((Memref.whole cc0_scratch4).access (Rect.unit (s := S8x2x8x8) ![c.val, 0, 0, 0] S1x2x8x8.size inb)).emb
      (ix4 (n0 := 1) (n1 := 2) (n2 := 8) (n3 := 8) 0 (i 1) (i 2) (i 3)) = i := by
    show (((View.whole cc0_scratch4).slice (Rect.unit (s := S8x2x8x8) ![c.val, 0, 0, 0] S1x2x8x8.size inb))).emb _ = i
    rw [View.emb_slice, Function.Embedding.trans_apply, View.emb_whole, Function.Embedding.refl_apply]
    funext a; apply Fin.ext
    rw [Rect.emb_apply]
    fin_cases a
    · show c.val + 1 * 0 = (i 0).val; rw [hi0]; omega
    · show 0 + 1 * (i 1).val = (i 1).val; omega
    · show 0 + 1 * (i 2).val = (i 2).val; omega
    · show 0 + 1 * (i 3).val = (i 3).val; omega
  conv_lhs => rw [← hy, View.write_emb_of_mem _ _ (Finset.mem_univ _)]
  unfold gatM
  rw [hi0]
  rfl

/-! ## The pipeline's data -/

def t₀ : Fin cfg0.N := t0_0
theorem fin_N (t : Fin cfg0.N) : t = t₀ := fin_N0 t

/-- What a device's body starts from. -/
def start (c : Dev nD) : sProp 𝕄 :=
  iprop(G' (gatO m) (gatM m) c ∗ cred (tallyAt (barCell c) true 7) ∗ seven (fun o => recvCr (F := F) c o) ∗ levAts L lv
    ∗ pt c main_arg1 (kB m c) ∗ pt c main_arg2 (vB m c))
def Φ₀ (c : Dev nD) : sProp 𝕄 :=
  iprop(start m c ∗ (∃ f, pt c cc0_scratch0 f) ∗ (∃ f, pt c cc0_scratch1 f) ∗ (∃ f, pt c cc0_scratch3 f) ∗ (∃ f, pt c cc0_scratch4 f))
/-- What it ends with. -/
def Φ₁ (c : Dev nD) : sProp 𝕄 :=
  iprop((pt c main_arg1 (kB m c) ∗ pt c main_arg2 (vB m c))
    ∗ ((∃ f, pt c cc0_scratch0 f) ∗ (∃ f, pt c cc0_scratch1 f) ∗ (∃ f, pt c cc0_scratch3 f) ∗ (∃ f, pt c cc0_scratch4 f))
    ∗ copySems (F := F) c ∗ semVal (barCell c) 0 ∗ eight (fun o => sendZ (F := F) c o) ∗ eight (fun o => recvZ (F := F) c o))

def dats (_ : Fin 1) (c : Dev nD) : Dat τ (Elt F) Bool ℕ UU ℕ cfg0 c where
  A w := m ((cfg0.win w).arr.view.loc (c : Thread nD τ))
  after w _ := match w with
    | ⟨0, _⟩ => lenB m c
    | ⟨1, _⟩ => qB m c
    | ⟨2, _⟩ => btB m c
    | ⟨3, _⟩ => result (gatO m) (gatM m)
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

omit [FloatOps F] [Named F] in
theorem owns_whole_eq (c : Dev nD) (b : Ref sig .tc) (X : b.ty.Contents (Elt F)) :
    (owns (Ix := Bool) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre (c : Dev nD) : sProp 𝕄 :=
  iprop(Φ₀ m c ∗ (dats m 0 c).owesAt false t₀.castSucc
    ∗ (∃ d, stg c cc0_stg0_0 ((dats m 0 c).before (0 : Fin 4) t₀ d))
    ∗ (∃ d, stg c cc0_stg1_0 ((dats m 0 c).before (1 : Fin 4) t₀ d))
    ∗ (∃ d, stg c cc0_stg2_0 ((dats m 0 c).before (2 : Fin 4) t₀ d))
    ∗ (∃ d, stg c cc0_stg3_0 ((dats m 0 c).before (3 : Fin 4) t₀ d)))

def bodyPost (c : Dev nD) : sProp 𝕄 :=
  iprop(Φ₁ m c ∗ (dats m 0 c).owesAt false t₀.succ
    ∗ stg c cc0_stg0_0 (lenB m c) ∗ stg c cc0_stg1_0 (qB m c) ∗ stg c cc0_stg2_0 (btB m c) ∗ stg c cc0_stg3_0 (result (gatO m) (gatM m)))

/-- The cells a device neither pays nor waits on close at once. -/
theorem close_own (gO : CO F) (gM : CM F) (K : Dev nD × KC → ℕ) (c : Dev nD) :
    iprop(records gO gM K ∗ sendPos (F := F) c 0 ∗ recvPos (F := F) c 0) ⊢ |={Set.univ}=> iprop(sendZ (F := F) c 0 ∗ recvZ (F := F) c 0) := by
  unfold sendPos recvPos sendZ recvZ
  rw [nb_zero]
  iintro ⟨#HR, ⟨S0, S1⟩, ⟨R0, R1⟩⟩
  ihave ⟨#I1, -⟩ := (inv_at gO gM K (c, .inr (.inl (0, 0)))) $$ HR
  ihave ⟨#I2, -⟩ := (inv_at gO gM K (c, .inr (.inl (0, 1)))) $$ HR
  ihave ⟨#I3, -⟩ := (inv_at gO gM K (c, .inr (.inr (c, 0)))) $$ HR
  ihave ⟨#I4, -⟩ := (inv_at gO gM K (c, .inr (.inr (c, 1)))) $$ HR
  imod (Rounds.cell_close ER (Rd gO gM) (g := sendCell c 0 0) (Set.mem_univ (K (c, .inr (.inl (0, 0))))) (fun h => h) (R := 0) (fun r _ => duties_send_zero gO gM c 0 r)) $$ [S0] with Z1
  · isplitr; · iexact I1
    iexact S0
  imod (Rounds.cell_close ER (Rd gO gM) (g := sendCell c 0 1) (Set.mem_univ (K (c, .inr (.inl (0, 1))))) (fun h => h) (R := 0) (fun r _ => duties_send_zero gO gM c 1 r)) $$ [S1] with Z2
  · isplitr; · iexact I2
    iexact S1
  imod (Rounds.cell_close ER (Rd gO gM) (g := recvCell c c 0) (Set.mem_univ (K (c, .inr (.inr (c, 0))))) (fun h => h) (R := 0) (fun r _ => duties_recv_self gO gM c 0 r)) $$ [R0] with Z3
  · isplitr; · iexact I3
    iexact R0
  imod (Rounds.cell_close ER (Rd gO gM) (g := recvCell c c 1) (Set.mem_univ (K (c, .inr (.inr (c, 1))))) (fun h => h) (R := 0) (fun r _ => duties_recv_self gO gM c 1 r)) $$ [R1] with Z4
  · isplitr; · iexact I4
    iexact R1
  imodintro
  isplitl [Z1 Z2]
  · isplitl [Z1]; · iexact Z1
    iexact Z2
  isplitl [Z3]; · iexact Z3
  iexact Z4

/-- A device may wait on its own copies while it owes its arrivals. -/
theorem mayWaits_own (c : Dev nD) : (levAts L lv : sProp 𝕄) ⊢ Transfers.MayWaits (c.tc : Thread nD τ) false (owedR c sendList) :=
  Transfers.MayWaits.intro fun sm => mayWait_own c sm []

omit [FloatOps F] [Named F] in
theorem lent_intro (c : Dev nD) (o : Fin 8) (f : CO F) (g : CM F) : gotSl f g c o ⊢ lent (F := F) c o := by
  unfold gotSl lent barPay
  iintro ⟨H1, H2⟩
  isplitl [H1]
  · iexists f; iexact H1
  · iexists g; iexact H2

omit [FloatOps F] [Named F] in
theorem toks_split (c : Dev nD) (o : Fin 8) : (toks c o : sProp 𝕄) = iprop(dutyTok ER (barCell (nb c o)) 0 c ∗ payTok (F := F) c o) := rfl

set_option maxRecDepth 100000 in
set_option maxHeartbeats 2000000 in
/-- The body's obligation on device `c`. -/
theorem sound_body (c : Dev nD) : bodyPre m c ⊢ wp frame (wpE (defs₀ (F := F)) Variants.none c.tc none) Set.univ
     (cc0__body (Memref.whole cc0_stg0_0) (Memref.isWhole_whole _) (Memref.whole cc0_stg1_0) (Memref.isWhole_whole _) (Memref.whole main_arg1) (Memref.isWhole_whole _) (Memref.whole main_arg2) (Memref.isWhole_whole _)
      (Memref.whole cc0_stg2_0) (Memref.isWhole_whole _) (Memref.whole cc0_stg3_0) (Memref.isWhole_whole _) (Memref.whole cc0_scratch0) (Memref.isWhole_whole _) (Memref.whole cc0_scratch1) (Memref.isWhole_whole _)
      cc0_scratch2 (Memref.whole cc0_scratch3) (Memref.isWhole_whole _) (Memref.whole cc0_scratch4) (Memref.isWhole_whole _) cc0_scratch5 cc0_scratch6) (fun _ => bodyPost m c) := by
  unfold bodyPre Φ₀ start G'
  iintro ⟨⟨⟨⟨⟨%K, #HR⟩, Hcs, Hat, Htok⟩, Hcb, Hrc, #Hlev, HK, HV⟩, ⟨%f6, H6⟩, ⟨%f7, H7⟩, ⟨%f3, H3⟩, ⟨%f4, H4⟩⟩, HO, ⟨%dl, %gl, %hl, Hl⟩, ⟨%dq, %gq, %hq, Hq⟩, ⟨%db, %gb, %hb, Hb⟩, ⟨%dd, %go, -, Hout⟩⟩
  have el : gl = lenB m c := by rw [hl]; unfold Dat.before; rw [if_pos (fetch0_0 t₀)]; rfl
  have eq : gq = qB m c := by rw [hq]; unfold Dat.before; rw [if_pos (fetch0_1 t₀)]; rfl
  have eb : gb = btB m c := by rw [hb]; unfold Dat.before; rw [if_pos (fetch0_2 t₀)]; rfl
  clear hl hq hb
  subst el eq eb
  ihave Hat := (Entails.of_eq (cells_eq c fun g => (atPos ER g 0 ∅ 0 : sProp 𝕄))) $$ Hat
  icases Hat with ⟨Hab, ⟨HS0, HS1, HS2, HS3, HS4, HS5, HS6, HS7⟩, ⟨HR0, HR1, HR2, HR3, HR4, HR5, HR6, HR7⟩⟩
  ihave Htok := (Entails.of_eq (bigSep_eight fun o => (toks c o : sProp 𝕄))) $$ Htok
  icases Htok with ⟨-, HT1, HT2, HT3, HT4, HT5, HT6, HT7⟩
  simp only [toks_split]
  icases HT1 with ⟨HT1, HP1⟩
  icases HT2 with ⟨HT2, HP2⟩
  icases HT3 with ⟨HT3, HP3⟩
  icases HT4 with ⟨HT4, HP4⟩
  icases HT5 with ⟨HT5, HP5⟩
  icases HT6 with ⟨HT6, HP6⟩
  icases HT7 with ⟨HT7, HP7⟩
  ihave HG := (Entails.of_eq (got_eight f3 f4 c)) $$ [H3 H4]
  · isplitl [H3]; · iexact H3
    iexact H4
  icases HG with ⟨HG0, HG1, HG2, HG3, HG4, HG5, HG6, HG7⟩
  imod (close_own (gatO m) (gatM m) K c) $$ [HS0 HR0] with ⟨HZ1, HZ2⟩
  · isplitr; · iexact HR
    isplitl [HS0]; · unfold sendPos; iexact HS0
    unfold recvPos; iexact HR0
  unfold Dat.owesAt Pipeline.owesWithin
  icases HO with ⟨%W, -, HO⟩
  iapply ((run c (kB m c) (vB m c) f6 f7 (lenB m c) (qB m c) (btB m c)).2.2 (gatO m) (gatM m) K W (fun _ => bodyPost m c)
    (fun f i hi => by rw [run_o]; exact write_o m c _ _ (off1_eq c) f i hi)
    (fun f i hi => by
      have e := run_ml c (kB m c) (vB m c) f6 f7 (lenB m c) (qB m c) (btB m c)
      rw [e]; exact write_ml m c _ _ (off2_eq c) f i hi)) $$ [-HZ1 HZ2]
  · isplitl [HK]; · iexact HK
    isplitl [HV]; · iexact HV
    isplitl [H6]; · iexact H6
    isplitl [H7]; · iexact H7
    isplitl [Hl]; · iexact Hl
    isplitl [Hq]; · iexact Hq
    isplitl [Hb]; · iexact Hb
    isplitl [Hout]; · iexists go; iexact Hout
    unfold gotSl
    icases HG0 with ⟨HGO, HGM⟩
    ihave HGO := (Entails.of_eq (show (ptO c (nb c 0) fullShare f3 : sProp 𝕄) = ptO c c fullShare f3 from by rw [nb_zero])) $$ HGO
    ihave HGM := (Entails.of_eq (show (ptM c (nb c 0) fullShare f4 : sProp 𝕄) = ptM c c fullShare f4 from by rw [nb_zero])) $$ HGM
    isplitl [HGO]; · iexists f3; iexact HGO
    isplitl [HGM]; · iexists f4; iexact HGM
    isplitl [Hcs]; · iexact Hcs
    isplitl [HO]; · iexact HO
    isplitr; · iapply (mayWaits_own c); iexact Hlev
    isplitr; · iexact HR
    unfold protPre
    isplitr; · iexact Hlev
    isplitl [Hcb]; · iexact Hcb
    isplitl [Hab]; · iexact Hab
    isplitl [HT1 HG1 HT2 HG2 HT3 HG3 HT4 HG4 HT5 HG5 HT6 HG6 HT7 HG7]
    · isplitl [HT1 HG1]; · (isplitl [HT1]; · iexact HT1); iapply (lent_intro c 1 f3 f4); unfold gotSl; iexact HG1
      isplitl [HT2 HG2]; · (isplitl [HT2]; · iexact HT2); iapply (lent_intro c 2 f3 f4); unfold gotSl; iexact HG2
      isplitl [HT3 HG3]; · (isplitl [HT3]; · iexact HT3); iapply (lent_intro c 3 f3 f4); unfold gotSl; iexact HG3
      isplitl [HT4 HG4]; · (isplitl [HT4]; · iexact HT4); iapply (lent_intro c 4 f3 f4); unfold gotSl; iexact HG4
      isplitl [HT5 HG5]; · (isplitl [HT5]; · iexact HT5); iapply (lent_intro c 5 f3 f4); unfold gotSl; iexact HG5
      isplitl [HT6 HG6]; · (isplitl [HT6]; · iexact HT6); iapply (lent_intro c 6 f3 f4); unfold gotSl; iexact HG6
      (isplitl [HT7]; · iexact HT7); iapply (lent_intro c 7 f3 f4); unfold gotSl; iexact HG7
    isplitl [HP1 HP2 HP3 HP4 HP5 HP6 HP7]
    · isplitl [HP1]; · iexact HP1
      isplitl [HP2]; · iexact HP2
      isplitl [HP3]; · iexact HP3
      isplitl [HP4]; · iexact HP4
      isplitl [HP5]; · iexact HP5
      isplitl [HP6]; · iexact HP6
      iexact HP7
    isplitl [Hrc]; · iexact Hrc
    unfold recvPos sendPos
    isplitl [HR1 HR2 HR3 HR4 HR5 HR6 HR7]
    · isplitl [HR1]; · iexact HR1
      isplitl [HR2]; · iexact HR2
      isplitl [HR3]; · iexact HR3
      isplitl [HR4]; · iexact HR4
      isplitl [HR5]; · iexact HR5
      isplitl [HR6]; · iexact HR6
      iexact HR7
    · isplitl [HS1]; · iexact HS1
      isplitl [HS2]; · iexact HS2
      isplitl [HS3]; · iexact HS3
      isplitl [HS4]; · iexact HS4
      isplitl [HS5]; · iexact HS5
      isplitl [HS6]; · iexact HS6
      iexact HS7
  iintro ⟨HK, HV, H6, H7, Hl, Hq, Hb, Hout, H3, H4, Hcs, ⟨%W', HO⟩, HvB, HRZ, HSZ⟩
  unfold bodyPost Φ₁ Dat.owesAt Pipeline.owesWithin
  rw [show (dats m 0 c).owed t₀.succ = 0 from rfl]
  isplitl [HK HV H6 H7 H3 H4 Hcs HvB HRZ HSZ HZ1 HZ2]
  · isplitl [HK HV]
    · isplitl [HK]; · iexact HK
      iexact HV
    isplitl [H6 H7 H3 H4]
    · isplitl [H6]; · iexact H6
      isplitl [H7]; · iexact H7
      isplitl [H3]; · iexists _; iexact H3
      iexists _; iexact H4
    isplitl [Hcs]; · iexact Hcs
    isplitl [HvB]; · iexact HvB
    isplitl [HSZ HZ1]
    · isplitl [HZ1]; · iexact HZ1
      iexact HSZ
    · isplitl [HZ2]; · iexact HZ2
      iexact HRZ
  isplitl [HO]
  · iexists W'
    isplitr; · ipureintro; exact fun _ _ => Or.inl trivial
    iexact HO
  isplitl [Hl]
  · iexists _; isplitr; · (ipureintro; rfl)
    iexact Hl
  isplitl [Hq]
  · iexists _; isplitr; · (ipureintro; rfl)
    iexact Hq
  isplitl [Hb]
  · iexists _; isplitr; · (ipureintro; rfl)
    iexact Hb
  iexists _; isplitr; · (ipureintro; rfl)
  iexact Hout

set_option maxRecDepth 100000 in
/-- The library's obligation of the body on device `c`. -/
theorem body_obligation (c : Dev nD) : BodyObligation (dats (F := F) m 0 c) (defs₀ (F := F)) 𝒱₀ false Set.univ := fun t => by
  rw [fin_N t]
  rw [bigSep_W0, bigSep_W0]
  simp only [owns_whole_eq]
  exact sound_body m c

/-! ## The launch's side conditions -/

set_option maxRecDepth 100000

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (gatO m) (gatM m) c)
      ⊢ |={Set.univ}=> iprop(start m c ∗ emp) := by
  rw [Pipeline.unscopedRestP_none, unscopedRest0_eq]
  iintro ⟨⟨HK, HV⟩, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    isplitl [Hlev]; · iexact Hlev
    isplitl [HK]; · iexact HK
    iexact HV
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop((unscopedSems0 c ∗ pt c main_arg1 (kB m c) ∗ pt c main_arg2 (vB m c)) ∗ Pipeline.ownSems0 osem c ∗ Pipeline.scopedRest cfg0.spec c) := by
  rw [show (dats m 0 c).Φ (Fin.last cfg0.N) = Φ₁ m c from rfl, scopedRest0_eq]
  unfold Φ₁
  iintro ⟨⟨HK, HV⟩, Hscr, Hcs, Hb, HS, HR⟩
  ihave Hv := (Entails.of_eq (cells_eq c fun g => (semVal g 0 : sProp 𝕄)).symm) $$ [Hb HS HR]
  · isplitl [Hb]; · iexact Hb
    unfold sendZ recvZ
    isplitl [HS]; · iexact HS
    iexact HR
  ihave H := (Entails.of_eq (sems_eq (F := F) c).symm) $$ [Hcs Hv]
  · isplitl [Hcs]; · iexact Hcs
    iexact Hv
  icases H with ⟨Ho, Hu⟩
  isplitl [Hu HK HV]
  · isplitl [Hu]; · iexact Hu
    isplitl [HK]; · iexact HK
    iexact HV
  isplitl [Ho]; · iexact Ho
  iexact Hscr

theorem waits (c : Dev nD) : (levAts L lv : sProp 𝕄) ⊢ Pipeline.cellsWaits cfgs (dats m) false 0 c :=
  Pipeline.cellsWaits_intro cfgs (dats m) false 0 c fun w s t => by
    rcases t with ⟨_ | _, ht⟩
    · exact mayWait_own c _ sigList
    · show _ ⊢ MayWait _ _ false 0
      rw [MayWait_zero]; iintro -; iempintro

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)
    ∧ r.2.mem ((c : Thread nD τ).loc main_arg2) = m ((c : Thread nD τ).loc main_arg2)

set_option maxRecDepth 100000 in
/-- For any float values, from any memory with all counters at zero, every run ends with the arrays as computed and all
counters at zero. -/
theorem run_windows : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) false cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (gatO m) (gatM m)) (G' := G' (gatO m) (gatM m)) (u₀ := u₀)
    (hu₀ := by
      unfold u₀
      iintro Hu
      ihave H := (ownU_split _ _) $$ Hu
      icases H with ⟨HP, HX⟩
      imod (fund_cells (gatO m) (gatM m)) $$ HX with HG
      imodintro
      isplitl [HP] <;> iassumption)
    (hglob := glob (gatO m) (gatM m))
    (hA := fun _ _ => rfl) (hpf := fun _ k => k.elim0)
    (X := start m) (Y := fun c => iprop(unscopedSems0 c ∗ pt c main_arg1 (kB m c) ∗ pt c main_arg2 (vB m c))) (Z := fun _ => iprop(emp))
    (hX := start_intro m ρ) (hin := phi0_intro m) (hout := phi1_exit m)
    (QY := fun c s => (s.mem ((c : Thread nD τ).loc main_arg1) = m ((c : Thread nD τ).loc main_arg1)
      ∧ s.mem ((c : Thread nD τ).loc main_arg2) = m ((c : Thread nD τ).loc main_arg2))
      ∧ ∀ sm : SemLoc sig, sm.isScoped .tc = false → s.sem ((c.tc : Thread nD τ), sm) = 0)
    (hY := fun c s' => by
      iintro ⟨⟨Hu, HK, HV⟩, -, HSI⟩
      icombine HSI HK gives %h1
      icombine HSI HV gives %h2
      imod (Pipeline.unscopedSems0_read (X := unscopedSems0 c) (c := c) fupd_intro s') $$ [Hu HSI] with ⟨%h3, HSI⟩
      · isplitl [Hu] <;> iassumption
      imodintro
      isplitr; · ipureintro; exact ⟨⟨Buf.eq_of_forall_mem_univ h1, Buf.eq_of_forall_mem_univ h2⟩, h3⟩
      iexact HSI)
    (hQ := fun _ h hs => ⟨fun c => ⟨fun w => (h c).1 w, (h c).2.2.1⟩, sem_eq_zero hs fun c => (h c).2.2.2⟩)

/-! ## The arrays after the run -/

theorem lenB_eq (c : Dev nD) : lenB m c = m ((c : Thread nD τ).loc main_arg4) := by
  funext i
  show m ((c : Thread nD τ).loc main_arg4) ((win0_0.blk (0 : Fin 1)).view.emb i) = _
  refine congrArg _ ?_
  funext a; apply Fin.ext; fin_cases a
  show 0 + 1 * (i 0).val = (i 0).val; omega
theorem qB_eq (c : Dev nD) : qB m c = m ((c : Thread nD τ).loc main_arg0) := by
  funext i
  show m ((c : Thread nD τ).loc main_arg0) ((win0_1.blk (0 : Fin 1)).view.emb i) = _
  refine congrArg _ ?_
  funext a; apply Fin.ext; fin_cases a
  · show 0 + 1 * (i 0).val = (i 0).val; omega
  · show 0 + 1 * (i 1).val = (i 1).val; omega
  · show 0 + 1 * (i 2).val = (i 2).val; omega
  · show 0 + 1 * (i 3).val = (i 3).val; omega
theorem btB_eq (c : Dev nD) : btB m c = m ((c : Thread nD τ).loc main_arg3) := by
  funext i
  show m ((c : Thread nD τ).loc main_arg3) ((win0_2.blk (0 : Fin 1)).view.emb i) = _
  refine congrArg _ ?_
  funext a; apply Fin.ext; fin_cases a
  · show 0 + 1 * (i 0).val = (i 0).val; omega
  · show 0 + 1 * (i 1).val = (i 1).val; omega

theorem finalA_0 (c : Dev nD) : finalA m c (0 : Fin 4) = m ((c : Thread nD τ).loc main_arg4) := (dats (F := F) m 0 c).arrAt_in (0 : Fin 4) rfl _
theorem finalA_1 (c : Dev nD) : finalA m c (1 : Fin 4) = m ((c : Thread nD τ).loc main_arg0) := (dats (F := F) m 0 c).arrAt_in (1 : Fin 4) rfl _
theorem finalA_2 (c : Dev nD) : finalA m c (2 : Fin 4) = m ((c : Thread nD τ).loc main_arg3) := (dats (F := F) m 0 c).arrAt_in (2 : Fin 4) rfl _

theorem finalA_3 (c : Dev nD) : finalA m c (3 : Fin 4) = result (gatO m) (gatM m) := by
  have e : finalA m c (3 : Fin 4) = (win0_3.blk t₀).view.write (Elt F) (m ((c : Thread nD τ).loc main_v1)) (result (gatO m) (gatM m)) Finset.univ := by
    unfold finalA
    rw [show cfg0.N = t₀.val + 1 from rfl, (dats m 0 c).arrAt_succ (3 : Fin 4) t₀, if_pos (flush0_3 t₀)]
    rfl
  rw [e]
  funext i
  have hi : (win0_3.blk t₀).view.emb i = i := by
    funext a; apply Fin.ext; fin_cases a
    · show 0 + 1 * (i 0).val = (i 0).val; omega
    · show 0 + 1 * (i 1).val = (i 1).val; omega
    · show 0 + 1 * (i 2).val = (i 2).val; omega
    · show 0 + 1 * (i 3).val = (i 3).val; omega
  conv_lhs => rw [← hi, View.write_emb_of_mem _ _ (Finset.mem_univ _)]
  rfl

/-- The run: the result on every device, the five arguments kept, and every counter at zero. -/
theorem run_main : θ_run defs (onTc (τ := τ) (main (F := F))) ⟨m, fun _ => 0, ρ⟩ (fun r =>
    ((∀ c : Dev nD, r.2.mem ((c.tc : Thread nD τ).loc main_v1) = result (gatO m) (gatM m))
      ∧ ∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
    ∧ r.2.sem = fun _ => 0) :=
  (θ_run defs _ _).mono (fun r h =>
    ⟨⟨fun c => ((h.1 c).1 (3 : Fin 4)).trans (finalA_3 m c), fun c =>
      ⟨((h.1 c).1 (1 : Fin 4)).trans (finalA_1 m c), (h.1 c).2.1, (h.1 c).2.2, ((h.1 c).1 (2 : Fin 4)).trans (finalA_2 m c),
        ((h.1 c).1 (0 : Fin 4)).trans (finalA_0 m c)⟩⟩, h.2⟩) (run_windows m ρ)

end Cert.Paged

end
-- ==== Proof.Same.lean ====
module

public import proofs.«01_k».proof.Proof.Launch
public import proofs.«01_k».proof.Proof.Gen.Kernel

@[expose] public section

noncomputable section

/-!
# The kernel at the hardware's values and at exact values

The two programs have one text but for the named constant. Where a name is read as the word it
stands for, they are the same program, so the run of the second is the run of the first.
-/

namespace Cert.Paged

open Idealize.ShloMosaic Idealize.SL.Sem

variable {F : FTy → Type} [FloatOps F]

set_option maxHeartbeats 4000000
set_option maxRecDepth 100000

/-- A name read as the float word it was printed for. -/
@[reducible] def plain : Named F := ⟨fun _ _ {φ} bits => Scalar.ofBits (F := F) φ bits⟩

theorem body_same : Cert.Kernel.cc0__body (F := F) = @Cert.KernelIdeal.cc0__body F _ plain _ := rfl

theorem defs₀_same : Cert.Kernel.defs₀ (F := F) = @Cert.KernelIdeal.defs₀ F _ plain _ := by
  refine congrArg Defs.onTc ?_
  funext l x
  match l, x with
  | 0, (t, s) => rfl
  | ⟨_ + 1, h⟩, _ => exact absurd h (Nat.not_lt.2 (Nat.le_add_left _ _))

theorem defs_same : Cert.Kernel.defs (F := F) = @Cert.KernelIdeal.defs F _ plain _ := by
  show Pipeline.defs Cert.KernelIdeal.pcfgs Cert.Kernel.defs₀ =
    Pipeline.defs Cert.KernelIdeal.pcfgs (@Cert.KernelIdeal.defs₀ F _ plain _)
  rw [defs₀_same]

end Cert.Paged

end
-- ==== Proof.Sums.lean ====
module

public import Idealize.ShloMosaic.PureOps.Ideal

@[expose] public section

noncomputable section

/-!
# Weighted sums over the extended reals

A weighted sum taken against one offset, multiplied by the exponential of the difference, is the sum taken
against another. That is all that joining the parts of a softmax is.
-/

namespace Cert.Sums

open Idealize.ShloMosaic

variable {ι κ : Type} [Fintype ι] [Fintype κ]

/-- A real sum is the extended reals' sum. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real distributes over a sum from the right. -/
theorem sum_mul_coe (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.2 hr) (EReal.coe_ne_top r), ih]

/-- A sum of nonnegative reals distributes over any value. -/
theorem coe_sum_mul (s : Finset ι) (f : ι → ℝ) (hf : ∀ i, 0 ≤ f i) (v : EReal) :
    ((∑ i ∈ s, f i : ℝ) : EReal) * v = ∑ i ∈ s, (f i : EReal) * v := by
  classical
  induction s using Finset.induction_on with
  | empty => simp
  | insert a s ha ih =>
    rw [Finset.sum_insert ha, Finset.sum_insert ha, EReal.coe_add,
      EReal.right_distrib_of_nonneg (EReal.coe_nonneg.2 (hf a)) (EReal.coe_nonneg.2 (Finset.sum_nonneg fun i _ => hf i)), ih]

/-- The largest of finitely many values, none of them `⊤` and not all of them `⊥`, is a real. -/
theorem fold_max_real (f : ι → EReal) (ht : ∀ i, f i ≠ ⊤) (hb : ∃ i, f i ≠ ⊥) : ∃ r : ℝ, Finset.univ.fold max ⊥ f = (r : EReal) := by
  obtain ⟨i, hi⟩ := hb
  have h : Finset.univ.fold max ⊥ f = Finset.univ.sup f := rfl
  have h1 : Finset.univ.fold max ⊥ f ≠ ⊤ := by
    rw [h]
    exact ne_of_lt ((Finset.sup_lt_iff bot_lt_top).2 fun j _ => lt_top_iff_ne_top.2 (ht j))
  have h2 : Finset.univ.fold max ⊥ f ≠ ⊥ := by
    rw [h]
    exact fun e => hi (le_bot_iff.1 (e ▸ Finset.le_sup (f := f) (Finset.mem_univ i)))
  exact ⟨_, (EReal.coe_toReal h1 h2).symm⟩

/-- The sum of the values `v`, each weighed by its count times the exponential of its score less `m`. -/
def wsum (c s : ι → ℝ) (v : ι → EReal) (m : ℝ) : EReal := ∑ x, ((c x * Real.exp (s x - m) : ℝ) : EReal) * v x

/-- To change the offset of a weighted sum is to multiply by one exponential. -/
theorem wsum_rescale (c s : ι → ℝ) (v : ι → EReal) (m M : ℝ) :
    wsum c s v m * ((Real.exp (m - M) : ℝ) : EReal) = wsum c s v M := by
  unfold wsum
  rw [sum_mul_coe _ _ (Real.exp_pos _).le]
  refine Finset.sum_congr rfl fun x _ => ?_
  rw [mul_right_comm, ← EReal.coe_mul, mul_assoc, ← Real.exp_add, sub_add_sub_cancel]

/-- A weighted sum of ones is the real sum of the weights. -/
theorem wsum_one (c s : ι → ℝ) (m : ℝ) : wsum c s (fun _ => 1) m = ((∑ x, c x * Real.exp (s x - m) : ℝ) : EReal) := by
  rw [coe_sum]
  exact Finset.sum_congr rfl fun x _ => mul_one _

/-- The parts of a weighted sum, brought to one offset and added. -/
theorem wsum_join (c s : κ → ι → ℝ) (v : κ → ι → EReal) (m : κ → ℝ) (M : ℝ) :
    ∑ e, wsum (c e) (s e) (v e) (m e) * ((Real.exp (m e - M) : ℝ) : EReal)
      = wsum (fun p : κ × ι => c p.1 p.2) (fun p => s p.1 p.2) (fun p => v p.1 p.2) M := by
  unfold wsum
  rw [Fintype.sum_prod_type]
  exact Finset.sum_congr rfl fun e _ => wsum_rescale (c e) (s e) (v e) (m e) M

/-! ## The pages of the devices -/

/-- Token `x` of chunk `κ` of device `δ` is a token of one page of all. -/
def token : Fin 8 × (Fin 4 × Fin 2048) ≃ Fin 4096 × Fin 16 where
  toFun p := (⟨512 * p.1.val + (128 * p.2.1.val + p.2.2.val / 16), by omega⟩, ⟨p.2.2.val % 16, by omega⟩)
  invFun q := (⟨q.1.val / 512, by omega⟩, ⟨q.1.val % 512 / 128, by omega⟩, ⟨q.1.val % 128 * 16 + q.2.val, by omega⟩)
  left_inv p := by
    obtain ⟨a, b, x⟩ := p
    refine Prod.ext (Fin.ext ?_) (Prod.ext (Fin.ext ?_) (Fin.ext ?_)) <;> simp only <;> omega
  right_inv q := by
    obtain ⟨p, t⟩ := q
    refine Prod.ext (Fin.ext ?_) (Fin.ext ?_) <;> simp only <;> omega

/-- Token `k` of a sequence is a token of one of its pages. -/
def tokenOf : Fin 8192 ≃ Fin 512 × Fin 16 where
  toFun k := (⟨k.val / 16, by omega⟩, ⟨k.val % 16, by omega⟩)
  invFun q := ⟨q.1.val * 16 + q.2.val, by omega⟩
  left_inv k := by refine Fin.ext ?_; simp only; omega
  right_inv q := by
    obtain ⟨p, t⟩ := q
    refine Prod.ext (Fin.ext ?_) (Fin.ext ?_) <;> simp only <;> omega

section attention

variable (live : Fin 512 → Prop) [DecidablePred live] (pg : Fin 512 → Fin 4096)
  (s : Fin 4096 × Fin 16 → ℝ) (v : Fin 4096 × Fin 16 → EReal)

/-- How often page `p` stands in the live part of a sequence's table. -/
def uses (p : Fin 4096) : ℝ := ∑ j, if live j ∧ pg j = p then 1 else 0

/-- The weight of a token of a sequence. -/
def weight (m : ℝ) (k : Fin 8192) : ℝ :=
  if live (tokenOf k).1 then Real.exp (s (pg (tokenOf k).1, (tokenOf k).2) - m) else 0

/-- To sum over all pages, each as often as it stands in the table, is to sum over the table. -/
theorem wsum_uses (M : ℝ) :
    wsum (fun q : Fin 4096 × Fin 16 => uses live pg q.1) s v M
      = ∑ k, (weight live pg s M k : EReal) * v (pg (tokenOf k).1, (tokenOf k).2) := by
  have hk : ∑ k, (weight live pg s M k : EReal) * v (pg (tokenOf k).1, (tokenOf k).2)
      = ∑ j, ∑ t, (((if live j then Real.exp (s (pg j, t) - M) else 0 : ℝ)) : EReal) * v (pg j, t) :=
    (Fintype.sum_equiv tokenOf _ (fun q : Fin 512 × Fin 16 =>
      (((if live q.1 then Real.exp (s (pg q.1, q.2) - M) else 0 : ℝ)) : EReal) * v (pg q.1, q.2)) (fun k => rfl)).trans
      (Fintype.sum_prod_type _)
  rw [hk]
  have hq : ∀ q : Fin 4096 × Fin 16, ((uses live pg q.1 * Real.exp (s q - M) : ℝ) : EReal) * v q
      = ∑ j, (((if live j ∧ pg j = q.1 then Real.exp (s q - M) else 0 : ℝ)) : EReal) * v q := by
    intro q
    rw [uses, Finset.sum_mul, coe_sum_mul _ _ (fun j => by split_ifs <;> positivity)]
    refine Finset.sum_congr rfl fun j _ => ?_
    split_ifs <;> simp
  unfold wsum
  rw [Finset.sum_congr rfl fun q _ => hq q, Finset.sum_comm]
  refine Finset.sum_congr rfl fun j _ => ?_
  rw [Fintype.sum_prod_type, Finset.sum_comm]
  refine Finset.sum_congr rfl fun t _ => ?_
  rw [Finset.sum_eq_single (pg j)]
  · simp
  · intro p _ hp
    rw [if_neg (fun h => hp h.2.symm)]
    simp
  · simp

/-- The weights do not depend on the offset but for one factor. -/
theorem weight_shift (m M : ℝ) (k : Fin 8192) : weight live pg s m k = weight live pg s M k * Real.exp (M - m) := by
  unfold weight
  split_ifs
  · rw [← Real.exp_add, sub_add_sub_cancel]
  · simp

theorem weight_nonneg (m : ℝ) (k : Fin 8192) : 0 ≤ weight live pg s m k := by
  unfold weight
  split_ifs
  · exact (Real.exp_pos _).le
  · exact le_rfl

theorem weight_sum_pos (h : ∃ j, live j) (m : ℝ) : 0 < ∑ k, weight live pg s m k := by
  obtain ⟨j, hj⟩ := h
  refine Finset.sum_pos' (fun k _ => weight_nonneg live pg s m k) ⟨tokenOf.symm (j, 0), Finset.mem_univ _, ?_⟩
  unfold weight
  rw [Equiv.apply_symm_apply, if_pos hj]
  exact Real.exp_pos _

/-- The joined sums divide to the softmax of the whole sequence. -/
theorem softmax (h : ∃ j, live j) (m M : ℝ) :
    Ideal.div (wsum (fun q : Fin 4096 × Fin 16 => uses live pg q.1) s v M)
        (wsum (fun q : Fin 4096 × Fin 16 => uses live pg q.1) s (fun _ => 1) M)
      = ∑ k, v (pg (tokenOf k).1, (tokenOf k).2)
          * Ideal.div (weight live pg s m k : EReal) (∑ k, (weight live pg s m k : EReal)) := by
  have hM := weight_sum_pos live pg s h M
  have hc : 0 < Real.exp (M - m) := Real.exp_pos _
  have hW : ∑ k, weight live pg s m k = (∑ k, weight live pg s M k) * Real.exp (M - m) := by
    rw [Finset.sum_mul]
    exact Finset.sum_congr rfl fun k _ => weight_shift live pg s m M k
  have hm := weight_sum_pos live pg s h m
  rw [wsum_uses, wsum_uses]
  simp only [mul_one]
  rw [← coe_sum, ← coe_sum, Ideal.div_coe hM.ne', sum_mul_coe _ _ (one_div_pos.2 hM).le]
  refine Finset.sum_congr rfl fun k _ => ?_
  have key : weight live pg s M k * (1 / ∑ k, weight live pg s M k) = weight live pg s m k * (1 / ∑ k, weight live pg s m k) := by
    rw [hW, weight_shift live pg s m M k]
    generalize (∑ k, weight live pg s M k) = W
    generalize Real.exp (M - m) = r at hc
    generalize weight live pg s M k = w
    have := hc.ne'
    rw [one_div, one_div, mul_inv]
    calc w * W⁻¹ = w * W⁻¹ * (r * r⁻¹) := by rw [mul_inv_cancel₀ this, mul_one]
      _ = w * r * (W⁻¹ * r⁻¹) := by ring
  rw [Ideal.div_coe hm.ne', ← EReal.coe_mul, mul_right_comm, ← EReal.coe_mul, mul_comm, key]

end attention

end Cert.Sums

end
-- ==== Proof.Value.lean ====
module

public import proofs.«01_k».proof.Proof.Launch
public import proofs.«01_k».proof.Proof.Sums
public import Idealize.ShloMosaic.Lib.Pointwise

@[expose] public section

noncomputable section

/-!
# What the kernel computes, over the extended reals

Each piece of the kernel is read at one index: scores, counts, a chunk's weighted sums, a head's, a device's, and the
result. Where queries and keys are finite every score is a real, and each sum is a weighted sum of `Sums`.
-/

namespace Cert.Paged

open Cert.KernelIdeal Cert.KernelIdeal.Gen Cert.Sums

open Idealize.ShloMosaic
open Idealize.ShloMosaic.TcCoe

set_option maxRecDepth 100000

/-! ## Words -/

/-- A comparison's bit as a number. -/
theorem bit_real (P : Prop) [Decidable P] (b : BitVec 1) (h : b = 1#1 ↔ P) :
    FloatOps.sitofp (F := Ideal) FTy.f32 (BitVec.setWidth 32 b) = (((if P then 1 else 0 : ℝ)) : EReal) := by
  show (((BitVec.setWidth 32 b).toInt : ℝ) : EReal) = _
  rcases BitVec.eq_zero_or_eq_one b with rfl | rfl
  · rw [if_neg (fun hp => absurd (h.2 hp) (by decide))]
    have : (BitVec.setWidth 32 0#1).toInt = 0 := by decide
    rw [this]; simp
  · rw [if_pos (h.1 rfl)]
    have : (BitVec.setWidth 32 1#1).toInt = 1 := by decide
    rw [this]; simp

theorem eq_one (x y : BitVec 32) : IntOp.cmpi .eq x y = 1#1 ↔ x = y := by
  show BitVec.ofBool (x == y) = 1#1 ↔ _
  by_cases h : x = y
  · subst h; simp
  · have : (x == y) = false := by simpa using h
    rw [this]
    exact iff_of_false (by decide) h

/-- Page `j` of a sequence of `ln` pages is live. -/
abbrev liveW (ln : BitVec 32) (j : Fin 512) : Prop := (BitVec.ofNat 32 j.val).slt ln = true

/-- A table's entry, masked to the live pages, names page `p` of the device whose first page is `512 * c`. -/
theorem hit_iff (c : Fin 8) (ln e : BitVec 32) (j p : Fin 512) (g : Fin 4096) (hg : liveW ln j → e = BitVec.ofNat 32 g.val) :
    IntOp.cmpi .eq (Scalar.select (IntOp.cmpi .slt (BitVec.ofNat 32 j.val) ln) e 4294967295#32)
        (IntOp.addi (BitVec.ofNat 32 p.val) (BitVec.ofNat 32 (512 * c.val))) = 1#1
      ↔ liveW ln j ∧ g = ⟨512 * c.val + p.val, by omega⟩ := by
  rw [eq_one]
  have hs : IntOp.cmpi .slt (BitVec.ofNat 32 j.val) ln = BitVec.ofBool ((BitVec.ofNat 32 j.val).slt ln) := rfl
  have ha : IntOp.addi (BitVec.ofNat 32 p.val) (BitVec.ofNat 32 (512 * c.val)) = BitVec.ofNat 32 (512 * c.val + p.val) := by
    show BitVec.ofNat 32 p.val + BitVec.ofNat 32 (512 * c.val) = _
    rw [← BitVec.ofNat_add, Nat.add_comm]
  rw [hs, ha]
  by_cases hl : liveW ln j
  · have hl' : (BitVec.ofNat 32 j.val).slt ln = true := hl
    rw [hl', hg hl]
    show BitVec.ofNat 32 g.val = BitVec.ofNat 32 (512 * c.val + p.val) ↔ _
    constructor
    · intro h
      refine ⟨hl, Fin.ext ?_⟩
      have := congrArg BitVec.toNat h
      rw [BitVec.toNat_ofNat, BitVec.toNat_ofNat, Nat.mod_eq_of_lt (by omega), Nat.mod_eq_of_lt (by omega)] at this
      exact this
    · rintro ⟨_, h⟩
      rw [h]
  · have hl' : (BitVec.ofNat 32 j.val).slt ln = false := by simpa using hl
    rw [hl']
    refine iff_of_false (fun h => ?_) (fun h => hl h.1)
    have := congrArg BitVec.toNat (show 4294967295#32 = BitVec.ofNat 32 (512 * c.val + p.val) from h)
    rw [BitVec.toNat_ofNat, BitVec.toNat_ofNat, Nat.mod_eq_of_lt (by omega), Nat.mod_eq_of_lt (by omega)] at this
    omega

/-- The page of token `t` of a chunk, as the kernel computes it. -/
theorem page_word : ∀ t : Fin 2048, Scalar.select
    (IntOp.andi
      (IntOp.cmpi CmpIPredicate.ne
        (IntOp.subi (BitVec.setWidth 32 (IntOp.cmpi CmpIPredicate.sgt (BitVec.ofNat 32 t.val) 0#32))
          (BitVec.setWidth 32 (IntOp.cmpi CmpIPredicate.slt (BitVec.ofNat 32 t.val) 0#32)))
        (Scalar.subi (Scalar.extui (Scalar.cmpi CmpIPredicate.sgt 16#32 0#32))
          (Scalar.extui (Scalar.cmpi CmpIPredicate.slt 16#32 0#32))))
      (IntOp.cmpi CmpIPredicate.ne (IntOp.remsi ArithUnit.vector (BitVec.ofNat 32 t.val) 16#32) 0#32))
    (IntOp.subi (IntOp.divsi ArithUnit.vector (BitVec.ofNat 32 t.val) 16#32) 1#32)
    (IntOp.divsi ArithUnit.vector (BitVec.ofNat 32 t.val) 16#32) = BitVec.ofNat 32 (t.val / 16) := by
  decide +kernel

theorem base_word (c : Dev nD) : baseOf c = BitVec.ofNat 32 (512 * c.val) := by
  revert c; decide +kernel

/-! ## Constants -/

theorem bot_word : Ideal.ofBits FTy.f32 4286578688#32 = ⊥ := by
  simp [Ideal.ofBits, Ideal.ieee]

theorem scale_eq : Named.named (F := Ideal) Cert.KernelIdeal.κ "scale" (φ := .f32) 1035273459#32 = (((Real.sqrt 128)⁻¹ : ℝ) : EReal) := rfl

/-! ## The pieces -/

theorem cntT_at (col : Fin 8 → FVec Ideal S512x1 .f32) (b : Fin 8) (p : Fin 512) : cntT col (ix2 b p) = col b (ix2 p 0) := by
  pointwise [cntT]
  fin_cases b <;> rfl

theorem cat4_at (m : Fin 4 → FVec Ideal S8x1 .f32) (b : Fin 8) (e : Fin 4) : cat4 (F := Ideal) m (ix2 b e) = m e (ix2 b 0) := by
  pointwise [cat4]
  fin_cases e <;> rfl

theorem cntC_at (cnt : FVec Ideal S8x512 .f32) (ch : Fin 4) (b : Fin 8) (t : Fin 2048) :
    cntC cnt ch (ix2 b t) = cnt (ix2 b ⟨128 * ch.val + t.val / 16, by omega⟩) := by
  pointwise [cntC, k0_pay14]
  simp only [page_word t]
  rw [Finset.sum_eq_single (⟨t.val / 16, by omega⟩ : Fin 128)]
  · rw [bit_real True _ (by rw [eq_one]; simp)]
    simp
  · intro x _ hx
    rw [bit_real False]
    · simp
    · rw [eq_one]
      refine iff_of_false (fun h => hx (Fin.ext ?_)) not_false
      have := congrArg BitVec.toNat h
      rw [BitVec.toNat_ofNat, BitVec.toNat_ofNat, Nat.mod_eq_of_lt (by omega), Nat.mod_eq_of_lt (by omega)] at this
      exact this
  · simp

theorem sOf_at (q : Vec Ideal S8x1x1x128 .f32) (k : Vec Ideal S1x1x128x16x128 .f32) (b : Fin 8) (t : Fin 2048) :
    sOf (F := Ideal) q k (ix2 b t) = (∑ x, q (ix4 b 0 0 x) * k (ix5 0 0 ⟨t.val / 16, by omega⟩ ⟨t.val % 16, by omega⟩ x)) * (((Real.sqrt 128)⁻¹ : ℝ) : EReal) := by
  pointwise [sOf]
  rfl

theorem mOf_at (q : Vec Ideal S8x1x1x128 .f32) (k : Vec Ideal S1x1x128x16x128 .f32) (b : Fin 8) :
    mOf (F := Ideal) q k (ix2 b 0) = Finset.univ.fold max ⊥ (fun x : Fin 2048 => sOf q k (ix2 b x)) := by
  pointwise [mOf]
  rw [bot_word]

theorem wOf_at (cnt : FVec Ideal S8x2048 .f32) (q : Vec Ideal S8x1x1x128 .f32) (k : Vec Ideal S1x1x128x16x128 .f32) (b : Fin 8) (t : Fin 2048) :
    wOf (F := Ideal) cnt q k (ix2 b t) = cnt (ix2 b t) * Ideal.exp (sOf q k (ix2 b t) - mOf q k (ix2 b 0)) := by
  pointwise [wOf]

theorem lOf_at (cnt : FVec Ideal S8x2048 .f32) (q : Vec Ideal S8x1x1x128 .f32) (k : Vec Ideal S1x1x128x16x128 .f32) (b : Fin 8) :
    lOf (F := Ideal) cnt q k (ix2 b 0) = ∑ x, wOf (F := Ideal) cnt q k (ix2 b x) := by
  pointwise [lOf]

theorem oOf_at (cnt : FVec Ideal S8x2048 .f32) (q : Vec Ideal S8x1x1x128 .f32) (k v : Vec Ideal S1x1x128x16x128 .f32) (b : Fin 8) (d : Fin 128) :
    oOf (F := Ideal) cnt q k v (ix2 b d) = ∑ x : Fin 2048, wOf (F := Ideal) cnt q k (ix2 b x) * v (ix5 0 0 ⟨x.val / 16, by omega⟩ ⟨x.val % 16, by omega⟩ d) := by
  pointwise [oOf]

theorem mHead_at (m : Fin 4 → FVec Ideal S8x1 .f32) (b : Fin 8) :
    mHead (F := Ideal) m (ix2 b 0) = Finset.univ.fold max ⊥ (fun e : Fin 4 => m e (ix2 b 0)) := by
  pointwise [mHead]
  simp only [cat4_at, bot_word]

theorem scHead_at (m : Fin 4 → FVec Ideal S8x1 .f32) (b : Fin 8) (e : Fin 4) :
    scHead (F := Ideal) m (ix2 b e) = Ideal.exp (m e (ix2 b 0) - mHead (F := Ideal) m (ix2 b 0)) := by
  pointwise [scHead]
  rw [cat4_at]

theorem lHead_at (m l : Fin 4 → FVec Ideal S8x1 .f32) (b : Fin 8) :
    lHead (F := Ideal) m l (ix2 b 0) = ∑ e : Fin 4, l e (ix2 b 0) * Ideal.exp (m e (ix2 b 0) - mHead (F := Ideal) m (ix2 b 0)) := by
  pointwise [lHead]
  simp only [cat4_at, scHead_at]

theorem oHead_at (m : Fin 4 → FVec Ideal S8x1 .f32) (o : Fin 4 → FVec Ideal S8x128 .f32) (b : Fin 8) (d : Fin 128) :
    oHead (F := Ideal) m o (ix3 b 0 d) = ∑ e : Fin 4, o e (ix2 b d) * Ideal.exp (m e (ix2 b 0) - mHead (F := Ideal) m (ix2 b 0)) := by
  have h : ∀ e : Fin 4, oTerm m o e (ix2 b d) = o e (ix2 b d) * scHead m (ix2 b e) := by
    intro e
    pointwise [oTerm]
  pointwise [oHead]
  simp only [h, scHead_at, Fin.sum_univ_four]

theorem oAll_at (o : Fin 8 → FVec Ideal S8x1x128 .f32) (b h : Fin 8) (d : Fin 128) : oAll (F := Ideal) o (ix4 0 b h d) = o h (ix3 b 0 d) := by
  pointwise [oAll]
  fin_cases h <;> rfl

theorem mAll_at (m l : Fin 8 → FVec Ideal S8x1 .f32) (b h : Fin 8) : mlAll (F := Ideal) m l (ix4 0 0 b h) = m h (ix2 b 0) := by
  pointwise [mlAll, cat8]
  fin_cases h <;> rfl

theorem lAll_at (m l : Fin 8 → FVec Ideal S8x1 .f32) (b h : Fin 8) : mlAll (F := Ideal) m l (ix4 0 1 b h) = l h (ix2 b 0) := by
  pointwise [mlAll, cat8]
  fin_cases h <;> rfl

/-- How often a device's page stands in a sequence's table. -/
theorem cntOf_at (c : Dev nD) (fl : S8.Idx → BitVec 32) (fb : S8x512.Idx → BitVec 32) (b : Fin 8) (p : Fin 512) (pg : Fin 512 → Fin 4096)
    (hpg : ∀ j, liveW (fl (ix1 b)) j → fb (ix2 b j) = BitVec.ofNat 32 (pg j).val) :
    cntOf (F := Ideal) c fl fb (ix2 b p) = ((uses (liveW (fl (ix1 b))) pg ⟨512 * c.val + p.val, by have : c.val < 8 := c.isLt; omega⟩ : ℝ) : EReal) := by
  unfold cntOf uses
  rw [cntT_at, coe_sum]
  pointwise [cntCol]
  refine Finset.sum_congr rfl fun j _ => ?_
  rw [base_word]
  exact bit_real _ _ (hit_iff c (fl (ix1 b)) (fb (ix2 b j)) j p (pg j) (hpg j))

/-! ## The result -/

theorem result_at (gO : S8x8x8x128.Idx → EReal) (gM : S8x2x8x8.Idx → EReal) (b h : Fin 8) (d : Fin 128) : result (F := Ideal) gO gM (ix4 b 0 h d) =
    Ideal.div (∑ x : Fin 8, gO (ix4 x b h d) * Ideal.exp (gM (ix4 x 0 b h) - Finset.univ.fold max ⊥ fun x : Fin 8 => gM (ix4 x 0 b h)))
      (∑ x : Fin 8, gM (ix4 x 1 b h) * Ideal.exp (gM (ix4 x 0 b h) - Finset.univ.fold max ⊥ fun x : Fin 8 => gM (ix4 x 0 b h))) := by
  have hO : ∀ x : Fin 8, View.readAt (Elt Ideal) (View.whole cc0_scratch3)
      (Rect.unit (s := S8x8x8x128) ![0, 0, 0, 0] ![8, 8, 8, 128] inb_S8x8x8x128_S8x8x8x128_0_0_0_0).toLoadRect gO (ix4 x b h d) = gO (ix4 x b h d) := by
    intro x
    refine congrArg gO (funext fun a => Fin.ext ?_)
    fin_cases a <;> simp <;> rfl
  have hM : ∀ x : Fin 8, View.readAt (Elt Ideal) (View.whole cc0_scratch4)
      (Rect.unit (s := S8x2x8x8) ![0, 0, 0, 0] ![8, 1, 8, 8] inb_S8x2x8x8_S8x1x8x8_0_0_0_0).toLoadRect gM (ix4 x 0 b h) = gM (ix4 x 0 b h) := by
    intro x
    refine congrArg gM (funext fun a => Fin.ext ?_)
    fin_cases a <;> simp <;> rfl
  have hL : ∀ x : Fin 8, View.readAt (Elt Ideal) (View.whole cc0_scratch4)
      (Rect.unit (s := S8x2x8x8) ![0, 1, 0, 0] ![8, 1, 8, 8] inb_S8x2x8x8_S8x1x8x8_0_1_0_0).toLoadRect gM (ix4 x 0 b h) = gM (ix4 x 1 b h) := by
    intro x
    refine congrArg gM (funext fun a => Fin.ext ?_)
    fin_cases a <;> simp <;> rfl
  pointwise [result, k0_pay1, k0_pay240, k0_pay241]
  simp only [hO, hM, hL, bot_word]

end Cert.Paged

end
-- ==== Proof.Merge.lean ====
module

public import proofs.«01_k».proof.Proof.Value

@[expose] public section

noncomputable section

/-!
# The kernel's result is one softmax over all the pages

The chunks of a device are joined at the device's largest score, and the devices at the largest of all. Neither offset
is left in the quotient.
-/

namespace Cert.Paged

open Cert.KernelIdeal Cert.KernelIdeal.Gen Cert.Sums

open Idealize.ShloMosaic
open Idealize.ShloMosaic.TcCoe

set_option maxRecDepth 100000

/-- The shape of all the devices' pages together. -/
abbrev SAll : Shape := ⟨4, ![4096, 16, 8, 128]⟩

/-- A value that is a real. -/
abbrev Real? (x : EReal) : Prop := x ≠ ⊤ ∧ x ≠ ⊥

/-- The score of a query against one token of one page. -/
def score (fq : S8x1x8x128.Idx → EReal) (K : SAll.Idx → EReal) (b h : Fin 8) (q : Fin 4096 × Fin 16) : ℝ :=
  (∑ x : Fin 128, (fq (ix4 b 0 h x)).toReal * (K (ix4 q.1 q.2 h x)).toReal) * (Real.sqrt 128)⁻¹

/-- The value of one token of one page. -/
def valueAt (V : SAll.Idx → EReal) (h : Fin 8) (d : Fin 128) (q : Fin 4096 × Fin 16) : EReal := V (ix4 q.1 q.2 h d)

/-- A product of finite rows, scaled, is the real one. -/
theorem dot_real (x y : Fin 128 → EReal) (hx : ∀ i, Real? (x i)) (hy : ∀ i, Real? (y i)) (r : ℝ) :
    (∑ i, x i * y i) * (r : EReal) = (((∑ i, (x i).toReal * (y i).toReal) * r : ℝ) : EReal) := by
  rw [EReal.coe_mul, coe_sum]
  congr 1
  refine Finset.sum_congr rfl fun i _ => ?_
  rw [EReal.coe_mul, EReal.coe_toReal (hx i).1 (hx i).2, EReal.coe_toReal (hy i).1 (hy i).2]

section device

variable (c : Fin 8) (f1 f2 : S512x16x8x128.Idx → EReal) (fq : S8x1x8x128.Idx → EReal) (K V : SAll.Idx → EReal)
  (fl : S8.Idx → BitVec 32) (fb : S8x512.Idx → BitVec 32) (b h : Fin 8)

/-- A device's block is its part of all the pages. -/
def IsPart (f : S512x16x8x128.Idx → EReal) (K : SAll.Idx → EReal) : Prop :=
  ∀ (p : Fin 512) (t : Fin 16) (h : Fin 8) (d : Fin 128), f (ix4 p t h d) = K (ix4 ⟨512 * c.val + p.val, by omega⟩ t h d)

/-- A chunk's token, as the kernel reads it, is a token of one page of all. -/
theorem pages_at (f : S512x16x8x128.Idx → EReal) (hf : IsPart c f K) (e : Fin 4) (x : Fin 2048) (d : Fin 128) :
    pages (F := Ideal) f e h (ix5 0 0 ⟨x.val / 16, by omega⟩ ⟨x.val % 16, by omega⟩ d) = valueAt K h d (token (c, (e, x))) :=
  hf ⟨128 * e.val + x.val / 16, by omega⟩ ⟨x.val % 16, by omega⟩ h d

variable (hq : ∀ i, Real? (fq i)) (hK : ∀ i, Real? (K i)) (h1 : IsPart c f1 K) (h2 : IsPart c f2 V)

include hq hK h1 in
theorem score_at (e : Fin 4) (x : Fin 2048) :
    sOf (F := Ideal) (qRow (F := Ideal) fq h) (pages (F := Ideal) f1 e h) (ix2 b x) = ((score fq K b h (token (c, (e, x))) : ℝ) : EReal) := by
  rw [sOf_at]
  simp only [pages_at c K h f1 h1 e x]
  exact dot_real (fun i => fq (ix4 b 0 h i)) (fun i => valueAt K h i (token (c, (e, x)))) (fun i => hq _) (fun i => hK _) _

include hq hK h1 in
/-- A chunk's largest score is a real. -/
theorem mC_real (e : Fin 4) : ∃ m : ℝ, mC (F := Ideal) f1 fq h e (ix2 b 0) = (m : EReal) := by
  unfold mC
  rw [mOf_at]
  simp only [score_at c f1 fq K b h hq hK h1]
  exact fold_max_real _ (fun _ => EReal.coe_ne_top _) ⟨0, EReal.coe_ne_bot _⟩

variable (pg : Fin 512 → Fin 4096) (hpg : ∀ j, liveW (fl (ix1 b)) j → fb (ix2 b j) = BitVec.ofNat 32 (pg j).val)

/-- How often the page of a token is used. -/
abbrev use (q : Fin 4096 × Fin 16) : ℝ := uses (liveW (fl (ix1 b))) pg q.1

include hq hK h1 hpg in
theorem wOf_real (e : Fin 4) (m : ℝ) (hm : mC (F := Ideal) f1 fq h e (ix2 b 0) = (m : EReal)) (x : Fin 2048) :
    wOf (F := Ideal) (cntC (cntOf (F := Ideal) c fl fb) e) (qRow (F := Ideal) fq h) (pages (F := Ideal) f1 e h) (ix2 b x)
      = ((use fl b pg (token (c, (e, x))) * Real.exp (score fq K b h (token (c, (e, x))) - m) : ℝ) : EReal) := by
  unfold mC at hm
  rw [wOf_at, hm, score_at c f1 fq K b h hq hK h1, cntC_at, cntOf_at c fl fb b _ pg hpg, ← EReal.coe_sub, EReal.coe_mul]
  rfl

include hq hK h1 hpg in
theorem lC_real (e : Fin 4) (m : ℝ) (hm : mC (F := Ideal) f1 fq h e (ix2 b 0) = (m : EReal)) :
    lC (F := Ideal) (cntOf (F := Ideal) c fl fb) f1 fq h e (ix2 b 0)
      = wsum (fun x => use fl b pg (token (c, (e, x)))) (fun x => score fq K b h (token (c, (e, x)))) (fun _ => 1) m := by
  unfold lC wsum
  rw [lOf_at]
  exact Finset.sum_congr rfl fun x _ => (wOf_real c f1 fq K fl fb b h hq hK h1 pg hpg e m hm x).trans (mul_one _).symm

include hq hK h1 h2 hpg in
theorem oC_real (d : Fin 128) (e : Fin 4) (m : ℝ) (hm : mC (F := Ideal) f1 fq h e (ix2 b 0) = (m : EReal)) :
    oC (F := Ideal) (cntOf (F := Ideal) c fl fb) f1 f2 fq h e (ix2 b d)
      = wsum (fun x => use fl b pg (token (c, (e, x)))) (fun x => score fq K b h (token (c, (e, x))))
          (fun x => valueAt V h d (token (c, (e, x)))) m := by
  unfold oC wsum
  rw [oOf_at]
  exact Finset.sum_congr rfl fun x _ => by
    rw [wOf_real c f1 fq K fl fb b h hq hK h1 pg hpg e m hm x, pages_at c V h f2 h2 e x d]

include hq hK h1 h2 hpg in
/-- What a device stores: its largest score, and its weighted sums at that offset. -/
theorem device_real : ∃ M : ℝ, mlPay (F := Ideal) c f1 fl fq fb (ix4 0 0 b h) = (M : EReal)
    ∧ mlPay (F := Ideal) c f1 fl fq fb (ix4 0 1 b h)
        = wsum (fun p : Fin 4 × Fin 2048 => use fl b pg (token (c, p))) (fun p => score fq K b h (token (c, p))) (fun _ => 1) M
    ∧ ∀ d, oPay (F := Ideal) c f1 f2 fl fq fb (ix4 0 b h d)
        = wsum (fun p : Fin 4 × Fin 2048 => use fl b pg (token (c, p))) (fun p => score fq K b h (token (c, p)))
            (fun p => valueAt V h d (token (c, p))) M := by
  choose m hm using mC_real c f1 fq K b h hq hK h1
  obtain ⟨M, hM⟩ : ∃ M : ℝ, mHead (F := Ideal) (mC (F := Ideal) f1 fq h) (ix2 b 0) = (M : EReal) := by
    rw [mHead_at]
    simp only [hm]
    exact fold_max_real _ (fun _ => EReal.coe_ne_top _) ⟨0, EReal.coe_ne_bot _⟩
  have hexp : ∀ e, Ideal.exp (mC (F := Ideal) f1 fq h e (ix2 b 0) - mHead (F := Ideal) (mC (F := Ideal) f1 fq h) (ix2 b 0))
      = ((Real.exp (m e - M) : ℝ) : EReal) := by
    intro e
    rw [hm, hM, ← EReal.coe_sub]
    rfl
  refine ⟨M, ?_, ?_, fun d => ?_⟩
  · unfold mlPay
    rw [mAll_at, hM]
  · unfold mlPay
    rw [lAll_at, lHead_at]
    simp only [hexp, lC_real c f1 fq K fl fb b h hq hK h1 pg hpg _ _ (hm _)]
    exact wsum_join (fun e x => use fl b pg (token (c, (e, x)))) (fun e x => score fq K b h (token (c, (e, x)))) (fun _ _ => 1) m M
  · unfold oPay
    rw [oAll_at, oHead_at]
    simp only [hexp, oC_real c f1 f2 fq K V fl fb b h hq hK h1 h2 pg hpg d _ _ (hm _)]
    exact wsum_join (fun e x => use fl b pg (token (c, (e, x)))) (fun e x => score fq K b h (token (c, (e, x))))
      (fun e x => valueAt V h d (token (c, (e, x)))) m M

end device

/-- The kernel's result, as one softmax over the tokens of a sequence's table. -/
theorem result_softmax (m : (ℓ : Loc nD τ sig) → Buf (Elt Ideal) ℓ) (fq : S8x1x8x128.Idx → EReal) (K V : SAll.Idx → EReal)
    (fl : S8.Idx → BitVec 32) (fb : S8x512.Idx → BitVec 32) (b h : Fin 8) (d : Fin 128)
    (hQ : ∀ c, qB m c = fq) (hL : ∀ c, lenB m c = fl) (hB : ∀ c, btB m c = fb)
    (h1 : ∀ c : Fin 8, IsPart c (kB m c) K) (h2 : ∀ c : Fin 8, IsPart c (vB m c) V)
    (hq : ∀ i, Real? (fq i)) (hK : ∀ i, Real? (K i))
    (pg : Fin 512 → Fin 4096) (hpg : ∀ j, liveW (fl (ix1 b)) j → fb (ix2 b j) = BitVec.ofNat 32 (pg j).val)
    (hlive : ∃ j, liveW (fl (ix1 b)) j) (μ : ℝ) :
    result (F := Ideal) (gatO m) (gatM m) (ix4 b 0 h d)
      = ∑ k, valueAt V h d (pg (tokenOf k).1, (tokenOf k).2)
          * Ideal.div (weight (liveW (fl (ix1 b))) pg (score fq K b h) μ k : EReal)
              (∑ k, (weight (liveW (fl (ix1 b))) pg (score fq K b h) μ k : EReal)) := by
  choose M hM hl ho using fun c : Fin 8 => device_real c (kB m c) (vB m c) fq K V fl fb b h hq hK (h1 c) (h2 c) pg hpg
  have gM0 : ∀ x : Fin 8, gatM m (ix4 x 0 b h) = (M x : EReal) := fun x => by
    show mlPay x (kB m x) (lenB m x) (qB m x) (btB m x) (ix4 0 0 b h) = _
    rw [hQ, hL, hB, hM]
  have gM1 : ∀ x : Fin 8, gatM m (ix4 x 1 b h)
      = wsum (fun p => use fl b pg (token (x, p))) (fun p => score fq K b h (token (x, p))) (fun _ => 1) (M x) := fun x => by
    show mlPay x (kB m x) (lenB m x) (qB m x) (btB m x) (ix4 0 1 b h) = _
    rw [hQ, hL, hB, hl]
  have gO0 : ∀ x : Fin 8, gatO m (ix4 x b h d)
      = wsum (fun p => use fl b pg (token (x, p))) (fun p => score fq K b h (token (x, p))) (fun p => valueAt V h d (token (x, p))) (M x) := fun x => by
    show oPay x (kB m x) (vB m x) (lenB m x) (qB m x) (btB m x) (ix4 0 b h d) = _
    rw [hQ, hL, hB, ho]
  obtain ⟨T, hT⟩ : ∃ T : ℝ, Finset.univ.fold max ⊥ (fun x : Fin 8 => (M x : EReal)) = (T : EReal) :=
    fold_max_real _ (fun _ => EReal.coe_ne_top _) ⟨0, EReal.coe_ne_bot _⟩
  have hexp : ∀ x : Fin 8, Ideal.exp ((M x : EReal) - (T : EReal)) = ((Real.exp (M x - T) : ℝ) : EReal) := fun x => by
    rw [← EReal.coe_sub]; rfl
  rw [result_at]
  simp only [gM0, gM1, gO0, hT, hexp]
  rw [wsum_join (fun (x : Fin 8) p => use fl b pg (token (x, p))) (fun x p => score fq K b h (token (x, p)))
      (fun x p => valueAt V h d (token (x, p))) M T,
    wsum_join (fun (x : Fin 8) p => use fl b pg (token (x, p))) (fun x p => score fq K b h (token (x, p))) (fun _ _ => 1) M T]
  have hre : ∀ v : Fin 4096 × Fin 16 → EReal, wsum (fun p : Fin 8 × (Fin 4 × Fin 2048) => use fl b pg (token (p.1, p.2)))
      (fun p => score fq K b h (token (p.1, p.2))) (fun p => v (token (p.1, p.2))) T = wsum (use fl b pg) (score fq K b h) v T :=
    fun v => Equiv.sum_comp token (fun q => ((use fl b pg q * Real.exp (score fq K b h q - T) : ℝ) : EReal) * v q)
  rw [hre (valueAt V h d), hre (fun _ => 1)]
  exact softmax (liveW (fl (ix1 b))) pg (score fq K b h) (valueAt V h d) hlive μ T

end Cert.Paged

end
-- ==== Proof.Ref.lean ====
module

public import proofs.«01_k».proof.Proof.Gen.ReferenceIdeal.Run
public import proofs.«01_k».proof.Proof.Merge
public import Idealize.ShloMosaic.Lib.Pointwise

@[expose] public section

noncomputable section

/-!
# What the reference computes, over the extended reals

The reference gathers every sequence's pages, scores its query against each token, sets the scores of dead pages to
`-∞`, and takes the softmax.
-/

namespace Cert.PagedRef

open Cert.ReferenceIdeal Cert.ReferenceIdeal.Gen Cert.Sums

open Idealize.ShloMosaic
open Idealize.ShloMosaic.TcCoe

set_option maxRecDepth 100000

/-! ## The pieces of the reference -/

/-- The pages of each sequence's table, one after another. -/
def gat (k : FVec Ideal S4096x16x8x128 .f32) (bt : IVec S8x512 32) : FVec Ideal S8x8192x8x128 .f32 :=
  shapeCast _ (Host.gather gather_S4096x16x8x128_S8x512x1_S8x512x16x8x128_234_0_n_n_0_2_1168128 k
    (broadcastInDim S8x512x1 ![0, 1] bcast_S8x512_S8x512x1_0_1
      (select (cmpi .slt bt (broadcastInDim S8x512 ![] bcast_S_S8x512 (constantI S_ 32 0#32)))
        (addi bt (broadcastInDim S8x512 ![] bcast_S_S8x512 (constantI S_ 32 4096#32))) bt)))
    shapeCasts_S8x512x16x8x128_S8x8192x8x128

/-- The page of each token, by a division that rounds down. -/
def pageOf : IVec S8x8x1x8192 32 :=
  select (andi (cmpi .ne (signi (iotaInDim S8x8x1x8192 32 3)) (broadcastInDim S8x8x1x8192 ![] bcast_S_S8x8x1x8192 (signi (id (constantI S_ 32 16#32)))))
      (cmpi .ne (Host.remsi (iotaInDim S8x8x1x8192 32 3) (broadcastInDim S8x8x1x8192 ![] bcast_S_S8x8x1x8192 (id (constantI S_ 32 16#32))))
        (broadcastInDim S8x8x1x8192 ![] bcast_S_S8x8x1x8192 (constantI S_ 32 0#32))))
    (subi (Host.divsi (iotaInDim S8x8x1x8192 32 3) (broadcastInDim S8x8x1x8192 ![] bcast_S_S8x8x1x8192 (id (constantI S_ 32 16#32))))
      (broadcastInDim S8x8x1x8192 ![] bcast_S_S8x8x1x8192 (constantI S_ 32 1#32)))
    (Host.divsi (iotaInDim S8x8x1x8192 32 3) (broadcastInDim S8x8x1x8192 ![] bcast_S_S8x8x1x8192 (id (constantI S_ 32 16#32))))

/-- The scores, `-∞` on dead pages. -/
def sRef (q : FVec Ideal S8x1x8x128 .f32) (kg : FVec Ideal S8x8192x8x128 .f32) (lens : IVec S8 32) : FVec Ideal S8x8x1x8192 .f32 :=
  select (cmpi .slt pageOf (broadcastInDim S8x8x1x8192 ![0, 1, 2, 3] bcast_S8x1x1x1_S8x8x1x8192_0_1_2_3 (broadcastInDim S8x1x1x1 ![0] bcast_S8_S8x1x1x1_0 lens)))
    (Host.divf (Host.dotGeneral dot_S8x1x8x128_S8x8192x8x128_S8x8x1x8192_3_3_1_1_02_02 none q kg)
      (broadcastInDim S8x8x1x8192 ![] bcast_S_S8x8x1x8192 (Host.sqrt (constant S_ .f32 0x43000000#32))))
    (broadcastInDim S8x8x1x8192 ![] bcast_S_S8x8x1x8192 (id (constant S_ .f32 0xFF800000#32)))

/-- The exponentials of the scores less the largest. -/
def eRef (s : FVec Ideal S8x8x1x8192 .f32) : FVec Ideal S8x8x1x8192 .f32 :=
  Host.exp (subf s (broadcastInDim S8x8x1x8192 ![0, 1, 2, 3] bcast_S8x8x1x1_S8x8x1x8192_0_1_2_3 (broadcastInDim S8x8x1x1 ![0, 1, 2] bcast_S8x8x1_S8x8x1x1_0_1_2
    (Host.reduce FloatOps.maximumf s (constant S_ .f32 0xFF800000#32) reducesTo_S8x8x1x8192_S8x8x1_d3 h_S_))))

/-- The weights. -/
def pRef (e : FVec Ideal S8x8x1x8192 .f32) : FVec Ideal S8x8x1x8192 .f32 :=
  Host.divf e (broadcastInDim S8x8x1x8192 ![0, 1, 2, 3] bcast_S8x8x1x1_S8x8x1x8192_0_1_2_3 (broadcastInDim S8x8x1x1 ![0, 1, 2] bcast_S8x8x1_S8x8x1x1_0_1_2
    (Host.reduceAdd e (constant S_ .f32 0x00000000#32) reducesTo_S8x8x1x8192_S8x8x1_d3 h_S_)))

/-- The weighted sum of the values. -/
def outRef (p : FVec Ideal S8x8x1x8192 .f32) (vg : FVec Ideal S8x8192x8x128 .f32) : FVec Ideal S8x1x8x128 .f32 :=
  transpose S8x1x8x128 [0, 3, 1, 2] (Host.dotGeneral dot_S8x8192x8x128_S8x8x1x8192_S8x8x128x1_1_3_3_2_02_01 none vg p) transposes_S8x8x128x1_S8x1x8x128_0_3_1_2

theorem ref_eq (m : (ℓ : Loc nD τ sig) → Buf (Elt Ideal) ℓ) (c : Dev nD) : Cert.ReferenceIdeal.Value.res_main_v36 m c =
    outRef (pRef (eRef (sRef (m ((c.tc : Thread nD τ).loc main_arg0)) (gat (m ((c.tc : Thread nD τ).loc main_arg1)) (m ((c.tc : Thread nD τ).loc main_arg3)))
      (m ((c.tc : Thread nD τ).loc main_arg4))))) (gat (m ((c.tc : Thread nD τ).loc main_arg2)) (m ((c.tc : Thread nD τ).loc main_arg3))) := rfl

/-- The page that entry `j` of sequence `b`'s table names: a negative entry counts from the end, and one past the
last page names the last. -/
def pageIdx (bt : IVec S8x512 32) (b : Fin 8) (j : Fin 512) : Fin 4096 :=
  ⟨min (Scalar.select (IntOp.cmpi .slt (bt (ix2 b j)) 0#32) (IntOp.addi (bt (ix2 b j)) 4096#32) (bt (ix2 b j))).toInt.toNat 4095, by omega⟩

theorem gather_at (k : FVec Ideal S4096x16x8x128 .f32) (idx : IVec S8x512x1 32) (b : Fin 8) (j : Fin 512) (t : Fin 16) (h : Fin 8) (d : Fin 128) :
    Host.gather gather_S4096x16x8x128_S8x512x1_S8x512x16x8x128_234_0_n_n_0_2_1168128 k idx (ix5 b j t h d)
      = k (ix4 ⟨min (idx (ix3 b j 0)).toInt.toNat 4095, by omega⟩ t h d) := by
  unfold Host.gather
  refine congrArg k (funext fun a => Fin.ext ?_)
  match a with
  | ⟨0, _⟩ =>
    have hsi : (gather_S4096x16x8x128_S8x512x1_S8x512x16x8x128_234_0_n_n_0_2_1168128).siIdx (ix5 b j t h d) ⟨0, Nat.one_pos⟩ = ix3 b j 0 := by
      funext a
      refine Fin.ext ?_
      match a with
      | ⟨0, _⟩ => rfl
      | ⟨1, _⟩ => rfl
      | ⟨2, _⟩ => rfl
    exact congrArg (fun z => min (idx z).toInt.toNat 4095) hsi
  | ⟨1, _⟩ => exact Nat.zero_add _
  | ⟨2, _⟩ => exact Nat.zero_add _
  | ⟨3, _⟩ => exact Nat.zero_add _

theorem gat_at (k : FVec Ideal S4096x16x8x128 .f32) (bt : IVec S8x512 32) (b : Fin 8) (t : Fin 8192) (h : Fin 8) (d : Fin 128) :
    gat k bt (ix4 b t h d) = k (ix4 (pageIdx bt b (tokenOf t).1) (tokenOf t).2 h d) := by
  pointwise [gat]
  rw [gather_at]
  pointwise []
  rfl

/-! ## The readings -/

/-- A division that rounds down, on the tokens' numbers. -/
theorem div16 : ∀ t : Fin 8192, Scalar.select
      (IntOp.andi
        (IntOp.cmpi CmpIPredicate.ne
          (if BitVec.ofNat 32 t.val = 0 then (0 : BitVec 32) else if (BitVec.ofNat 32 t.val).msb = true then -1 else 1)
          (if (16#32 : BitVec 32) = 0 then (0 : BitVec 32) else if (16#32 : BitVec 32).msb = true then -1 else 1))
        (IntOp.cmpi CmpIPredicate.ne (IntOp.remsi ArithUnit.host (BitVec.ofNat 32 t.val) 16#32) 0#32))
      (IntOp.subi (IntOp.divsi ArithUnit.host (BitVec.ofNat 32 t.val) 16#32) 1#32)
      (IntOp.divsi ArithUnit.host (BitVec.ofNat 32 t.val) 16#32) = BitVec.ofNat 32 (t.val / 16) := by
  decide +kernel

theorem pageOf_at (b h : Fin 8) (t : Fin 8192) : pageOf (ix4 b h 0 t) = BitVec.ofNat 32 (tokenOf t).1.val := by
  pointwise [pageOf]
  exact div16 t

theorem sqrt_word : Ideal.sqrt (Ideal.ofBits FTy.f32 1124073472#32) = ((Real.sqrt 128 : ℝ) : EReal) := by
  have h : Ideal.ofBits FTy.f32 1124073472#32 = ((128 : ℝ) : EReal) := by
    simp [Ideal.ofBits, Ideal.ieee, -EReal.coe_mul]
    norm_num
  rw [h]
  exact if_neg (by norm_num : ¬(128 : ℝ) < 0)

theorem sRef_at (q : FVec Ideal S8x1x8x128 .f32) (kg : FVec Ideal S8x8192x8x128 .f32) (l : IVec S8 32) (b h : Fin 8) (t : Fin 8192) :
    sRef q kg l (ix4 b h 0 t) = Scalar.select (IntOp.cmpi .slt (pageOf (ix4 b h 0 t)) (l (ix1 b)))
      (Ideal.div (∑ x, q (ix4 b 0 h x) * kg (ix4 b t h x)) (Ideal.sqrt (Ideal.ofBits FTy.f32 1124073472#32)))
      (Ideal.ofBits FTy.f32 4286578688#32) := by
  pointwise [sRef]
  rfl

theorem eRef_at (s : FVec Ideal S8x8x1x8192 .f32) (b h : Fin 8) (t : Fin 8192) : eRef s (ix4 b h 0 t)
    = Ideal.exp (s (ix4 b h 0 t) - Finset.univ.fold max (Ideal.ofBits FTy.f32 4286578688#32) (fun x : Fin 8192 => s (ix4 b h 0 x))) := by
  pointwise [eRef]

theorem pRef_at (e : FVec Ideal S8x8x1x8192 .f32) (b h : Fin 8) (t : Fin 8192) :
    pRef e (ix4 b h 0 t) = Ideal.div (e (ix4 b h 0 t)) (∑ x : Fin 8192, e (ix4 b h 0 x)) := by
  pointwise [pRef]

theorem outRef_at (p : FVec Ideal S8x8x1x8192 .f32) (vg : FVec Ideal S8x8192x8x128 .f32) (b h : Fin 8) (d : Fin 128) :
    outRef p vg (ix4 b 0 h d) = ∑ x : Fin 8192, vg (ix4 b x h d) * p (ix4 b h 0 x) := by
  pointwise [outRef]

/-! ## The softmax -/

section softmax

variable (q : FVec Ideal S8x1x8x128 .f32) (K V : FVec Ideal S4096x16x8x128 .f32) (bt : IVec S8x512 32) (l : IVec S8 32) (b h : Fin 8)
  (hq : ∀ i, Paged.Real? (q i)) (hK : ∀ i, Paged.Real? (K i))

include hq hK in
/-- A live token's score is the real one, and a dead token's is `-∞`. -/
theorem sRef_real (t : Fin 8192) : sRef q (gat K bt) l (ix4 b h 0 t)
    = if Paged.liveW (l (ix1 b)) (tokenOf t).1 then ((Paged.score q K b h (pageIdx bt b (tokenOf t).1, (tokenOf t).2) : ℝ) : EReal) else ⊥ := by
  rw [sRef_at, pageOf_at, sqrt_word, Ideal.div_coe (by positivity), one_div, Paged.bot_word]
  simp only [gat_at]
  rw [Paged.dot_real (fun x => q (ix4 b 0 h x)) (fun x => K (ix4 (pageIdx bt b (tokenOf t).1) (tokenOf t).2 h x)) (fun _ => hq _) (fun _ => hK _)]
  show (if _ then _ else _) = _
  refine if_congr ?_ rfl rfl
  show BitVec.ofBool _ = 1#1 ↔ _
  cases h : (BitVec.ofNat 32 (tokenOf t).1.val).slt (l (ix1 b)) <;> simp [Paged.liveW, h]

include hq hK in
/-- The reference's result: a softmax, its weights taken against some offset. -/
theorem result_softmax (hlive : ∃ j, Paged.liveW (l (ix1 b)) j) : ∃ μ : ℝ, ∀ d,
    outRef (pRef (eRef (sRef q (gat K bt) l))) (gat V bt) (ix4 b 0 h d)
      = ∑ k, Paged.valueAt V h d (pageIdx bt b (tokenOf k).1, (tokenOf k).2)
          * Ideal.div (weight (Paged.liveW (l (ix1 b))) (pageIdx bt b) (Paged.score q K b h) μ k : EReal)
              (∑ k, (weight (Paged.liveW (l (ix1 b))) (pageIdx bt b) (Paged.score q K b h) μ k : EReal)) := by
  have hs := sRef_real q K bt l b h hq hK
  obtain ⟨μ, hμ⟩ := fold_max_real (fun x : Fin 8192 => sRef q (gat K bt) l (ix4 b h 0 x))
    (fun x => by rw [hs]; split_ifs; exacts [EReal.coe_ne_top _, bot_ne_top])
    (by
      obtain ⟨j, hj⟩ := hlive
      refine ⟨tokenOf.symm (j, 0), ?_⟩
      rw [hs, Equiv.apply_symm_apply, if_pos hj]
      exact EReal.coe_ne_bot _)
  have he : ∀ x, eRef (sRef q (gat K bt) l) (ix4 b h 0 x)
      = ((weight (Paged.liveW (l (ix1 b))) (pageIdx bt b) (Paged.score q K b h) μ x : ℝ) : EReal) := by
    intro x
    rw [eRef_at, Paged.bot_word, hμ, hs]
    unfold weight
    split_ifs
    · rw [← EReal.coe_sub]
      rfl
    · rw [EReal.bot_sub]
      rfl
  refine ⟨μ, fun d => ?_⟩
  rw [outRef_at]
  simp only [pRef_at, he, gat_at]
  rfl

end softmax

end Cert.PagedRef

end
-- ==== Proof.Usable.lean ====
module

public import proofs.«01_k».proof.Pre_usable_KernelIdeal
public import proofs.«01_k».proof.Pre_usable_ReferenceIdeal
public import proofs.«01_k».proof.Proof.Ref

@[expose] public section

noncomputable section

/-!
# What the precondition says

The queries and the keys are reals, every sequence has a live page, and every live table entry names a page there is.
-/

namespace Cert.Usable

open Cert.Pre_usable_KernelIdeal

open Idealize.ShloMosaic

set_option maxRecDepth 100000

theorem facts : Cert.Pre_usable_KernelIdeal.Facts := ⟨by decide, by decide, by decide, by decide, by decide, by decide, by decide, by decide, by decide⟩

theorem facts' : Cert.Pre_usable_ReferenceIdeal.Facts := ⟨by decide, by decide, by decide, by decide, by decide, by decide, by decide, by decide, by decide⟩

/-- A conjunction of bits is one where both are. -/
theorem andi_one (x y : BitVec 1) (h : IntOp.andi x y = 1#1) : x = 1#1 ∧ y = 1#1 := by
  revert x y
  decide

theorem ori_one (x y : BitVec 1) (h : IntOp.ori x y = 1#1) : x = 1#1 ∨ y = 1#1 := by
  revert x y
  decide

/-- A conjunction of many bits is one where all are. -/
theorem fold_one {ι : Type} [DecidableEq ι] (s : Finset ι) (f : ι → BitVec 1) (h : s.fold IntOp.andi 1#1 f = 1#1) : ∀ i ∈ s, f i = 1#1 := by
  induction s using Finset.induction_on with
  | empty => exact fun i hi => absurd hi (Finset.notMem_empty i)
  | insert a s ha ih =>
    rw [Finset.fold_insert ha] at h
    have h2 := andi_one _ _ h
    intro i hi
    rcases Finset.mem_insert.1 hi with rfl | hi
    · exact h2.1
    · exact ih h2.2 i hi

theorem top_word : Ideal.ofBits FTy.f32 2139095040#32 = ⊤ := by
  simp [Ideal.ofBits, Ideal.ieee]

/-- The comparisons a finite value passes. -/
theorem real_of (x : EReal) (h : IntOp.andi (BitVec.ofBool (decide (x < Ideal.ofBits .f32 2139095040#32)))
    (BitVec.ofBool (decide (Ideal.ofBits .f32 4286578688#32 < x))) = 1#1) : Paged.Real? x := by
  rw [top_word, Paged.bot_word] at h
  obtain ⟨h1, h2⟩ := andi_one _ _ h
  have hb : ∀ p : Bool, BitVec.ofBool p = 1#1 → p = true := by decide
  exact ⟨ne_of_lt (of_decide_eq_true (hb _ h1)), ne_of_gt (of_decide_eq_true (hb _ h2))⟩

/-- An entry in range is its own page. -/
theorem page_of (e : BitVec 32) (h1 : IntOp.cmpi .sge e 0#32 = 1#1) (h2 : IntOp.cmpi .slt e 4096#32 = 1#1) :
    e = BitVec.ofNat 32 (min (Scalar.select (IntOp.cmpi .slt e 0#32) (IntOp.addi e 4096#32) e).toInt.toNat 4095) := by
  have hb : ∀ p : Bool, BitVec.ofBool p = 1#1 → p = true := by decide
  have h0 : (0 : Int) ≤ e.toInt := by simpa [BitVec.sle] using hb _ h1
  have h4 : e.toInt < 4096 := by simpa [BitVec.slt] using hb _ h2
  have hs : Scalar.select (IntOp.cmpi .slt e 0#32) (IntOp.addi e 4096#32) e = e := by
    refine if_neg ?_
    intro h
    have : e.toInt < 0 := by simpa [BitVec.slt] using hb _ h
    omega
  rw [hs]
  have hn : e.toInt = e.toNat := by
    rw [BitVec.toInt_eq_toNat_cond] at h0 ⊢
    split_ifs at h0 ⊢
    · rfl
    · omega
  rw [hn] at h4 ⊢
  refine BitVec.eq_of_toNat_eq ?_
  rw [BitVec.toNat_ofNat, Int.toNat_natCast]
  omega

variable [Facts]

theorem decode (q : FVec Ideal S8x1x8x128 .f32) (k v : FVec Ideal S512x16x8x128 .f32) (bt : IVec S8x512 32) (l : IVec S8 32)
    (h : fn (F := Ideal) q k v bt l = fun _ => 1#1) :
    (∀ i, Paged.Real? (q i)) ∧ (∀ i, Paged.Real? (k i)) ∧ (∀ b : Fin 8, Paged.liveW (l (ix1 b)) 0)
      ∧ ∀ (b : Fin 8) (j : Fin 512), Paged.liveW (l (ix1 b)) j → bt (ix2 b j) = BitVec.ofNat 32 (PagedRef.pageIdx bt b j).val := by
  have h' : ∀ (b : Fin 8) (j : Fin 512), fn (F := Ideal) q k v bt l (ix2 b j) = 1#1 := fun b j => congrFun h _
  pointwise [fn, fn_part1] at h'
  have hb : ∀ p : Bool, BitVec.ofBool p = 1#1 → p = true := by decide
  refine ⟨fun i => ?_, fun i => ?_, fun b => ?_, fun b j hl => ?_⟩
  · have := (andi_one _ _ (andi_one _ _ (h' 0 0)).2).1
    exact real_of _ (fold_one _ _ this i (Finset.mem_filter.2 ⟨Finset.mem_univ _, Subsingleton.elim _ _⟩))
  · have := (andi_one _ _ (andi_one _ _ (h' 0 0)).2).2
    exact real_of _ (fold_one _ _ this i (Finset.mem_filter.2 ⟨Finset.mem_univ _, Subsingleton.elim _ _⟩))
  · have := hb _ (andi_one _ _ (andi_one _ _ (h' b 0)).1).2
    have h1 : (1 : Int) ≤ (l (ix1 b)).toInt := by simpa [BitVec.sle] using this
    simp only [Paged.liveW, BitVec.slt]
    refine decide_eq_true ?_
    show (0 : Int) < _
    omega
  · rcases ori_one _ _ (andi_one _ _ (andi_one _ _ (h' b j)).1).1 with h1 | h1
    · have h2 : (l (ix1 b)).toInt ≤ (BitVec.ofNat 32 j.val).toInt := by simpa [BitVec.sle] using hb _ h1
      have h3 : (BitVec.ofNat 32 j.val).toInt < (l (ix1 b)).toInt := by simpa [Paged.liveW, BitVec.slt] using hl
      omega
    · exact page_of _ (andi_one _ _ h1).1 (andi_one _ _ h1).2

end Cert.Usable

end
-- ==== Proof.Algebraic.lean ====
module

public import proofs.«01_k».proof.Proof.Usable
public import proofs.«01_k».proof.Defs

@[expose] public section

noncomputable section

/-!
# The kernel's result is the reference's

Both are softmaxes over the same tokens; the offsets their exponentials are taken against differ, and cancel.
-/

namespace Cert.Algebraic

open Idealize.ShloMosaic
open Idealize.ShloMosaic.TcCoe
open Idealize.SL.Sem

set_option maxRecDepth 100000

/-- An index of a result, by its coordinates. -/
theorem idx_eq (i : (⟨4, ![8, 1, 8, 128]⟩ : Shape).Idx) : ∃ (b h : Fin 8) (d : Fin 128), i = ix4 b 0 h d :=
  ⟨i 0, i 2, i 3, funext fun a => match a with
    | ⟨0, _⟩ => rfl
    | ⟨1, _⟩ => Subsingleton.elim (α := Fin 1) _ _
    | ⟨2, _⟩ => rfl
    | ⟨3, _⟩ => rfl⟩

/-- A block of the whole array is a device's part. -/
theorem block_part (c : Fin 8) (K : Paged.SAll.Idx → EReal) :
    Paged.IsPart c (Layout.block ⟨4, ![512, 16, 8, 128]⟩ ⟨4, ![4096, 16, 8, 128]⟩ 0 8 c K) K := fun p t h d => by
  rw [Layout.block_apply]
  refine congrArg K (funext fun a => Fin.ext ?_)
  rw [Layout.Tiles.idx_val]
  match a with
  | ⟨0, _⟩ => exact congrArg (· + p.val) (Nat.mul_comm _ _)
  | ⟨1, _⟩ => rfl
  | ⟨2, _⟩ => rfl
  | ⟨3, _⟩ => rfl

/-- If every device's part is real, all is. -/
theorem whole_real (f : Fin 8 → Cert.KernelIdeal.S512x16x8x128.Idx → EReal) (K : Paged.SAll.Idx → EReal) (hp : ∀ c, Paged.IsPart c (f c) K)
    (hf : ∀ c i, Paged.Real? (f c i)) (i : Paged.SAll.Idx) : Paged.Real? (K i) := by
  have h0 : (i 0).val < 4096 := (i 0).isLt
  have h := hp ⟨(i 0).val / 512, by omega⟩ ⟨(i 0).val % 512, by omega⟩ (i 1) (i 2) (i 3)
  have e : i = ix4 ⟨512 * ((i 0).val / 512) + (i 0).val % 512, by omega⟩ (i 1) (i 2) (i 3) := funext fun a => match a with
    | ⟨0, _⟩ => Fin.ext (by show (i 0).val = 512 * ((i 0).val / 512) + (i 0).val % 512; omega)
    | ⟨1, _⟩ => rfl
    | ⟨2, _⟩ => rfl
    | ⟨3, _⟩ => rfl
  rw [e]
  exact h ▸ hf _ _

theorem algebraic : Cert.algebraic_KernelIdeal_ReferenceIdeal_pre_usable_KernelIdeal
    (hKernelIdeal := Cert.KernelIdeal.Gen.facts) (hReferenceIdeal := Cert.ReferenceIdeal.Gen.facts) (hPre_usable_KernelIdeal := Usable.facts) := by
  intro m g m' g' hpre hin
  letI := Usable.facts
  have hd := fun c => Usable.decode _ _ _ _ _ (hpre c)
  have key : Paged.result (F := Ideal) (Paged.gatO m) (Paged.gatM m) = Cert.ReferenceIdeal.Value.res_main_v36 m' 0 := by
    rw [PagedRef.ref_eq]
    have hQ : ∀ c, Paged.qB m c = m' (((0 : Dev Cert.ReferenceIdeal.nD).tc : Thread Cert.ReferenceIdeal.nD Cert.ReferenceIdeal.τ).loc Cert.ReferenceIdeal.main_arg0) :=
      fun c => (Paged.qB_eq m c).trans (hin c).1
    have hB : ∀ c, Paged.btB m c = m' (((0 : Dev Cert.ReferenceIdeal.nD).tc : Thread Cert.ReferenceIdeal.nD Cert.ReferenceIdeal.τ).loc Cert.ReferenceIdeal.main_arg3) :=
      fun c => (Paged.btB_eq m c).trans (hin c).2.2.2.1
    have hL : ∀ c, Paged.lenB m c = m' (((0 : Dev Cert.ReferenceIdeal.nD).tc : Thread Cert.ReferenceIdeal.nD Cert.ReferenceIdeal.τ).loc Cert.ReferenceIdeal.main_arg4) :=
      fun c => (Paged.lenB_eq m c).trans (hin c).2.2.2.2
    have h1 : ∀ c : Fin 8, Paged.IsPart c (Paged.kB m c) (m' (((0 : Dev Cert.ReferenceIdeal.nD).tc : Thread Cert.ReferenceIdeal.nD Cert.ReferenceIdeal.τ).loc Cert.ReferenceIdeal.main_arg1)) :=
      fun c => (congrArg (fun f => Paged.IsPart c f _) (hin c).2.1).mpr (block_part c _)
    have h2 : ∀ c : Fin 8, Paged.IsPart c (Paged.vB m c) (m' (((0 : Dev Cert.ReferenceIdeal.nD).tc : Thread Cert.ReferenceIdeal.nD Cert.ReferenceIdeal.τ).loc Cert.ReferenceIdeal.main_arg2)) :=
      fun c => (congrArg (fun f => Paged.IsPart c f _) (hin c).2.2.1).mpr (block_part c _)
    obtain ⟨hq, -, hl, ht⟩ := hd 0
    rw [(hin 0).1] at hq
    rw [(hin 0).2.2.2.2] at hl
    rw [(hin 0).2.2.2.1, (hin 0).2.2.2.2] at ht
    have hK := whole_real (fun c => Paged.kB m c) _ h1 (fun c => (hd c).2.1)
    funext i
    obtain ⟨b, h, d, rfl⟩ := idx_eq i
    obtain ⟨μ, hμ⟩ := PagedRef.result_softmax _ _ (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) _ b h hq hK ⟨0, hl b⟩
    exact (Paged.result_softmax m _ _ _ _ _ b h d hQ hL hB h1 h2 hq hK _ (ht b) ⟨0, hl b⟩ μ).trans (hμ d).symm
  refine ⟨Cert.ReferenceIdeal.Value.res_main_v36 m' 0, ?_, ?_⟩
  · exact (θ_run Cert.KernelIdeal.defs _ _).mono (fun r h c => ⟨(h.1.1 c).trans key, h.1.2 c⟩) (Paged.run_main (F := Ideal) m g)
  · exact (θ_run Cert.ReferenceIdeal.defs _ _).mono (fun r h => h 0) (Cert.ReferenceIdeal.Value.run (F := Ideal) m' g')

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every run of the kernel at the hardware's float values ends with its arguments kept and every counter at zero. -/
theorem frame_kernel : Cert.quiescent_Kernel := by
  intro m ρ _
  rw [Cert.Paged.defs_same]
  exact (θ_run (@Cert.KernelIdeal.defs Bits _ Cert.Paged.plain _) _ _).mono (fun _ h => ⟨h.1.2, h.2⟩) (@Cert.Paged.run_main Bits _ Cert.Paged.plain m ρ)

/-- The same at exact values. -/
theorem frame_ideal : Cert.quiescent_KernelIdeal := fun m ρ _ =>
  (θ_run Cert.KernelIdeal.defs _ _).mono (fun _ h => ⟨h.1.2, h.2⟩) (Cert.Paged.run_main (F := Ideal) m ρ)

/-- The reference is a host program with no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The named constant is the number it stands for. -/
theorem preserves : Cert.preserves_Kernel_KernelIdeal :=
  IdealRules.named_const.statement Cert.KernelIdeal.κ "scale" .f32 0x3DB504F3#32 (((Real.sqrt 128)⁻¹ : ℝ) : EReal) rfl

theorem claim : Cert.Claim := ⟨Cert.Kernel.Gen.facts, Cert.KernelIdeal.Gen.facts, Cert.ReferenceIdeal.Gen.facts,
  Cert.Usable.facts, Cert.Usable.facts', frame_kernel, frame_ideal, fun m ρ _ => frame_ideal m ρ trivial,
  frame_reference, fun m ρ _ => frame_reference m ρ trivial, preserves, Cert.Algebraic.algebraic⟩

end Cert.Proof

end
